-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_over_8" .f32 0x3E38AA3B#32 ((8⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3072 : Shape := ⟨3, ![2, 1024, 3072]⟩
abbrev S2x1024x512 : Shape := ⟨3, ![2, 1024, 512]⟩
abbrev S2x8x64x1024 : Shape := ⟨4, ![2, 8, 64, 1024]⟩
abbrev S48 : Shape := ⟨1, ![48]⟩
abbrev S8 : Shape := ⟨1, ![8]⟩
abbrev S1x1024x384 : Shape := ⟨3, ![1, 1024, 384]⟩
abbrev S1x1024x128 : Shape := ⟨3, ![1, 1024, 128]⟩
abbrev S1x1x64x1024 : Shape := ⟨4, ![1, 1, 64, 1024]⟩
abbrev S1024x128 : Shape := ⟨2, ![1024, 128]⟩
abbrev S128x128 : Shape := ⟨2, ![128, 128]⟩
abbrev S1 : Shape := ⟨1, ![1]⟩
abbrev S1x128x128 : Shape := ⟨3, ![1, 128, 128]⟩
abbrev S256x128 : Shape := ⟨2, ![256, 128]⟩
abbrev S128x256 : Shape := ⟨2, ![128, 256]⟩
abbrev S128 : Shape := ⟨1, ![128]⟩
abbrev S1x128 : Shape := ⟨2, ![1, 128]⟩
abbrev S1x1x64x128 : Shape := ⟨4, ![1, 1, 64, 128]⟩
abbrev S64x128 : Shape := ⟨2, ![64, 128]⟩
abbrev S64x256 : Shape := ⟨2, ![64, 256]⟩
abbrev S256x256 : Shape := ⟨2, ![256, 256]⟩
abbrev S1x1x64x256 : Shape := ⟨4, ![1, 1, 64, 256]⟩
abbrev S384x128 : Shape := ⟨2, ![384, 128]⟩
abbrev S384x256 : Shape := ⟨2, ![384, 256]⟩
abbrev S1x1x64x384 : Shape := ⟨4, ![1, 1, 64, 384]⟩
abbrev S64x384 : Shape := ⟨2, ![64, 384]⟩
abbrev S512x128 : Shape := ⟨2, ![512, 128]⟩
abbrev S512x256 : Shape := ⟨2, ![512, 256]⟩
abbrev S1x1x64x512 : Shape := ⟨4, ![1, 1, 64, 512]⟩
abbrev S64x512 : Shape := ⟨2, ![64, 512]⟩
abbrev S640x128 : Shape := ⟨2, ![640, 128]⟩
abbrev S640x256 : Shape := ⟨2, ![640, 256]⟩
abbrev S1x1x64x640 : Shape := ⟨4, ![1, 1, 64, 640]⟩
abbrev S64x640 : Shape := ⟨2, ![64, 640]⟩
abbrev S768x128 : Shape := ⟨2, ![768, 128]⟩
abbrev S768x256 : Shape := ⟨2, ![768, 256]⟩
abbrev S1x1x64x768 : Shape := ⟨4, ![1, 1, 64, 768]⟩
abbrev S64x768 : Shape := ⟨2, ![64, 768]⟩
abbrev S896x128 : Shape := ⟨2, ![896, 128]⟩
abbrev S896x256 : Shape := ⟨2, ![896, 256]⟩
abbrev S1x1x64x896 : Shape := ⟨4, ![1, 1, 64, 896]⟩
abbrev S64x896 : Shape := ⟨2, ![64, 896]⟩
abbrev S1024x256 : Shape := ⟨2, ![1024, 256]⟩
abbrev S64x1024 : Shape := ⟨2, ![64, 1024]⟩

abbrev nBuf : Space → Nat
  | .hbm => 7
  | .vmem => 8
  | .smem => 3
  | _ => 0

abbrev bufTy : (tb : Table) → Fin (tcTables nBuf tb) → BufTy
  | .hbm, ⟨0, _⟩ => ⟨S2x1024x3072, .fp8e4m3⟩
  | .hbm, ⟨1, _⟩ => ⟨S2x1024x512, .fp8e4m3⟩
  | .hbm, ⟨2, _⟩ => ⟨S2x8x64x1024, .fp8e4m3⟩
  | .hbm, ⟨3, _⟩ => ⟨S48, .f32⟩
  | .hbm, ⟨4, _⟩ => ⟨S8, .f32⟩
  | .hbm, ⟨5, _⟩ => ⟨S8, .f32⟩
  | .hbm, ⟨6, _⟩ => ⟨S2x1024x3072, .bf16⟩
  | .local _ .vmem, ⟨0, _⟩ => ⟨S1x1024x384, .fp8e4m3⟩
  | .local _ .vmem, ⟨1, _⟩ => ⟨S1x1024x384, .fp8e4m3⟩
  | .local _ .vmem, ⟨2, _⟩ => ⟨S1x1024x128, .fp8e4m3⟩
  | .local _ .vmem, ⟨3, _⟩ => ⟨S1x1024x128, .fp8e4m3⟩
  | .local _ .vmem, ⟨4, _⟩ => ⟨S1x1x64x1024, .fp8e4m3⟩
  | .local _ .vmem, ⟨5, _⟩ => ⟨S1x1x64x1024, .fp8e4m3⟩
  | .local _ .vmem, ⟨6, _⟩ => ⟨S1x1024x384, .bf16⟩
  | .local _ .vmem, ⟨7, _⟩ => ⟨S1x1024x384, .bf16⟩
  | .local _ .smem, ⟨0, _⟩ => ⟨S48, .f32⟩
  | .local _ .smem, ⟨1, _⟩ => ⟨S8, .f32⟩
  | .local _ .smem, ⟨2, _⟩ => ⟨S8, .f32⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def k0_off1 (i : grid0.Coords) : Fin 1 → Nat :=
  let arg1 : BitVec 32 := BitVec.ofNat 32 (i 1).val
  let v71 : Index := Scalar.indexCast arg1
  ![v71.toNat]
def k0_off2 (i : grid0.Coords) (c0_i32_27 : BitVec 32) (c0_i32_28 : BitVec 32) : Fin 1 → Nat :=
  let arg1 : BitVec 32 := BitVec.ofNat 32 (i 1).val
  let c6_i32 : BitVec 32 := 6#32
  let v94 : BitVec 32 := Scalar.muli arg1 c6_i32
  let v95 : BitVec 32 := Scalar.addi v94 c0_i32_27
  let v96 : BitVec 32 := Scalar.addi v95 c0_i32_28
  let v97 : Index := Scalar.indexCast v96
  ![v97.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e_over_8" => some ((8⁻¹ * (Real.log 2)⁻¹ : ℝ) : EReal)
  | _ => none
-- ==== ReferenceIdeal.lean ====
abbrev S2x1024x3072 : Shape := ⟨3, ![2, 1024, 3072]⟩
abbrev S2x1024x512 : Shape := ⟨3, ![2, 1024, 512]⟩
abbrev S2x8x64x1024 : Shape := ⟨4, ![2, 8, 64, 1024]⟩
abbrev S48 : Shape := ⟨1, ![48]⟩
abbrev S8 : Shape := ⟨1, ![8]⟩
abbrev S2x1024x8x6x64 : Shape := ⟨5, ![2, 1024, 8, 6, 64]⟩
abbrev S2x8x6x1024x64 : Shape := ⟨5, ![2, 8, 6, 1024, 64]⟩
abbrev S2x1024x8x64 : Shape := ⟨4, ![2, 1024, 8, 64]⟩
abbrev S2x8x1024x64 : Shape := ⟨4, ![2, 8, 1024, 64]⟩
abbrev S8x6 : Shape := ⟨2, ![8, 6]⟩
abbrev S8x1 : Shape := ⟨2, ![8, 1]⟩
abbrev S1x8x6x1x1 : Shape := ⟨5, ![1, 8, 6, 1, 1]⟩
abbrev S2x8x6x1024x1024 : Shape := ⟨5, ![2, 8, 6, 1024, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1x1x1x1024x1024 : Shape := ⟨5, ![1, 1, 1, 1024, 1024]⟩
abbrev S2x8x6x1024 : Shape := ⟨4, ![2, 8, 6, 1024]⟩
abbrev S2x8x6x1024x1 : Shape := ⟨5, ![2, 8, 6, 1024, 1]⟩
abbrev S1x8x1x1x1 : Shape := ⟨5, ![1, 8, 1, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x1024x3072, .fp8e4m3⟩
  | .hbm, ⟨1, _⟩ => ⟨S2x1024x512, .fp8e4m3⟩
  | .hbm, ⟨2, _⟩ => ⟨S2x8x64x1024, .fp8e4m3⟩
  | .hbm, ⟨3, _⟩ => ⟨S48, .f32⟩
  | .hbm, ⟨4, _⟩ => ⟨S8, .f32⟩
  | .hbm, ⟨5, _⟩ => ⟨S8, .f32⟩
  | .hbm, ⟨6, _⟩ => ⟨S2x1024x3072, .bf16⟩
  | .local _ .vmem, ⟨0, _⟩ => ⟨S2x1024x3072, .fp8e4m3⟩
  | .local _ .vmem, ⟨1, _⟩ => ⟨S2x1024x512, .fp8e4m3⟩
  | .local _ .vmem, ⟨2, _⟩ => ⟨S2x8x64x1024, .fp8e4m3⟩
  | .local _ .vmem, ⟨3, _⟩ => ⟨S48, .f32⟩
  | .local _ .vmem, ⟨4, _⟩ => ⟨S8, .f32⟩
  | .local _ .vmem, ⟨5, _⟩ => ⟨S8, .f32⟩
  | .local _ .vmem, ⟨6, _⟩ => ⟨S2x1024x3072, .bf16⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1024x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x64x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Row.lean ====
/- One query row of causal attention with coded weights, over the extended reals: no arrays and no programs here.
   The kernel takes powers of two of scores scaled by `1 / log 2`, divides the code range once by the row's sum, and looks only at
   the first `n` keys. The reference takes exponentials, divides each of them by the sum, and looks at all keys. The two give the
   same codes, and the same weighted sums (`weighted_eq`). -/
module

public import Idealize.ShloMosaic.PureOps.Ideal.Laws
public import Mathlib.Analysis.SpecialFunctions.Pow.Real
public import Mathlib.Analysis.SpecialFunctions.Log.Basic

@[expose] public section

noncomputable section

namespace Cert.Row

open Idealize.ShloMosaic
open scoped BigOperators

/-- The factor by which the kernel's exponents differ from the reference's, `1 / log 2`. -/
def L : ℝ := (Real.log 2)⁻¹

theorem L_pos : 0 < L := inv_pos.mpr (Real.log_pos (by norm_num))

/-- A power of two at `z / log 2` is the exponential at `z`, at the infinities too. -/
theorem exp2_mul_L (z : EReal) : Ideal.exp2 (z * (L : EReal)) = Ideal.exp z := by
  induction z with
  | bot => rw [EReal.bot_mul_coe_of_pos L_pos]; rfl
  | top => rw [EReal.top_mul_coe_of_pos L_pos]; rfl
  | coe r =>
    rw [← EReal.coe_mul]
    show ((Real.rpow 2 (r * L) : ℝ) : EReal) = ((Real.exp r : ℝ) : EReal)
    congr 1
    show (2 : ℝ) ^ (r * L) = _
    rw [Real.rpow_def_of_pos (by norm_num)]
    congr 1
    have h : Real.log 2 ≠ 0 := (Real.log_pos (by norm_num)).ne'
    unfold L
    field_simp

/-- A positive real factor goes through a difference. -/
theorem sub_mul_L (a b : EReal) : a * (L : EReal) - b * (L : EReal) = (a - b) * (L : EReal) := by
  rw [sub_eq_add_neg, sub_eq_add_neg, ← EReal.neg_mul,
    EReal.right_distrib_of_nonneg_of_ne_top (by exact_mod_cast L_pos.le) (EReal.coe_ne_top _)]

/-- A positive real factor goes through a maximum over finitely many scores. -/
theorem sup_mul_L {ι : Type} (s : Finset ι) (f : ι → EReal) :
    s.sup (fun k => f k * (L : EReal)) = s.sup f * (L : EReal) := by
  have hm : Monotone fun x : EReal => x * (L : EReal) := fun x y h =>
    mul_le_mul_of_nonneg_right h (by exact_mod_cast L_pos.le)
  exact (Finset.comp_sup_eq_sup_comp_of_is_total (fun x : EReal => x * (L : EReal)) hm (EReal.bot_mul_coe_of_pos L_pos)).symm

theorem exp_nonneg (z : EReal) : 0 ≤ Ideal.exp z := by
  induction z with
  | bot => exact le_refl _
  | top => exact le_top
  | coe r => exact EReal.coe_nonneg.mpr (Real.exp_pos r).le

/-! ## The codes of a row -/

/-- The greatest code. -/
def C : EReal := ((448 : ℝ) : EReal)

theorem C_pos : 0 < C := by unfold C; exact_mod_cast (by norm_num : (0 : ℝ) < 448)

/-- The reference's code of key `k`: the exponential over the row's sum, times the greatest code, clipped. -/
def refCode {N : ℕ} (s : Fin N → EReal) (k : Fin N) : EReal :=
  min C (max 0 (Ideal.div (Ideal.exp (s k - Finset.univ.sup s)) (∑ j, Ideal.exp (s j - Finset.univ.sup s)) * C))

/-- The kernel's code of key `k`: the power of two times the greatest code over the row's sum, clipped. -/
def kerCode {N : ℕ} (t : Fin N → EReal) (k : Fin N) : EReal :=
  min C (max 0 (Ideal.exp2 (t k - Finset.univ.sup t) * Ideal.div C (∑ j, Ideal.exp2 (t j - Finset.univ.sup t))))

/-- Dividing the code range by the sum first or each term by it, the clipped code is the same. A sum that is zero has
    only zero terms, and both codes are zero then. -/
theorem clip_eq {N : ℕ} (e : Fin N → EReal) (he : ∀ k, 0 ≤ e k) (k : Fin N) :
    max 0 (e k * Ideal.div C (∑ j, e j)) = max 0 (Ideal.div (e k) (∑ j, e j) * C) := by
  unfold Ideal.div
  by_cases hs : ∑ j, e j = 0
  · have hk : e k = 0 := (Finset.sum_eq_zero_iff_of_nonneg fun j _ => he j).mp hs k (Finset.mem_univ k)
    rw [if_pos hs, if_pos hs, hk, zero_mul, if_neg (lt_irrefl _), mul_comm, EReal.mul_bot_of_pos C_pos, max_self,
      max_eq_left bot_le]
  · rw [if_neg hs, if_neg hs, mul_comm C, mul_assoc]

/-- The kernel's codes of the scaled scores are the reference's codes of the scores. -/
theorem kerCode_mul_L {N : ℕ} (s : Fin N → EReal) (k : Fin N) : kerCode (fun j => s j * (L : EReal)) k = refCode s k := by
  unfold kerCode refCode
  simp only [sup_mul_L, sub_mul_L, exp2_mul_L]
  rw [clip_eq (fun j => Ideal.exp (s j - Finset.univ.sup s)) (fun _ => exp_nonneg _) k]

/-- A key whose score is `-∞` gets the code zero. -/
theorem refCode_of_bot {N : ℕ} (s : Fin N → EReal) (k : Fin N) (hk : s k = ⊥) : refCode s k = 0 := by
  have hz : Ideal.exp (s k - Finset.univ.sup s) = 0 := by rw [hk, sub_eq_add_neg, EReal.bot_add]; rfl
  unfold refCode
  rw [← clip_eq (fun j => Ideal.exp (s j - Finset.univ.sup s)) (fun _ => exp_nonneg _) k]
  show min C (max 0 (Ideal.exp (s k - Finset.univ.sup s) * _)) = 0
  rw [hz, zero_mul, max_self, min_eq_right C_pos.le]

/-! ## Leaving out keys that add nothing -/

/-- A sum over all keys is the sum over the first `n`, if the others' terms are zero. -/
theorem sum_first {n N : ℕ} (h : n ≤ N) (f : Fin N → EReal) (hf : ∀ k : Fin N, n ≤ k.val → f k = 0) :
    ∑ k, f k = ∑ k : Fin n, f (k.castLE h) := by
  obtain ⟨m, rfl⟩ := Nat.exists_eq_add_of_le h
  have hz : ∑ k : Fin m, f (Fin.natAdd n k) = 0 := Finset.sum_eq_zero fun k _ => hf _ (Nat.le_add_right n k.val)
  rw [Fin.sum_univ_add, hz, add_zero]
  rfl

/-- A maximum over all keys is the maximum over the first `n`, if the others' scores are `-∞`. -/
theorem sup_first {n N : ℕ} (h : n ≤ N) (f : Fin N → EReal) (hf : ∀ k : Fin N, n ≤ k.val → f k = ⊥) :
    Finset.univ.sup f = Finset.univ.sup fun k : Fin n => f (k.castLE h) := by
  apply le_antisymm
  · refine Finset.sup_le fun k _ => ?_
    by_cases hk : n ≤ k.val
    · rw [hf k hk]; exact bot_le
    · exact Finset.le_sup (f := fun k : Fin n => f (k.castLE h)) (Finset.mem_univ ⟨k.val, by omega⟩)
  · exact Finset.sup_le fun k _ => Finset.le_sup (f := f) (Finset.mem_univ _)

/-- The code of one of the first `n` keys does not depend on later keys whose scores are `-∞`. -/
theorem refCode_first {n N : ℕ} (h : n ≤ N) (s : Fin N → EReal) (hs : ∀ k : Fin N, n ≤ k.val → s k = ⊥) (k : Fin n) :
    refCode s (k.castLE h) = refCode (fun j : Fin n => s (j.castLE h)) k := by
  unfold refCode
  rw [sup_first h s hs, sum_first h _ fun k hk => by rw [hs k hk, sub_eq_add_neg, EReal.bot_add]; rfl]

/-- THE ROW: the kernel's weighted sum over the first `n` keys, of scores masked above the query's position, is the
    reference's over all `N` keys. `S` are the products of query and keys, `c` the reference's scale of them, `V` the values. -/
theorem weighted_eq {n N : ℕ} (h : n ≤ N) (q : ℕ) (hq : q < n) (S : ℕ → EReal) (c : EReal) (V : ℕ → EReal) :
    ∑ k : Fin n, V k.val * kerCode (fun j : Fin n => if j.val ≤ q then S j.val * (c * (L : EReal)) else ⊥) k
      = ∑ k : Fin N, refCode (fun j : Fin N => if q < j.val then ⊥ else S j.val * c) k * V k.val := by
  have hs : ∀ k : Fin N, n ≤ k.val → (fun j : Fin N => if q < j.val then ⊥ else S j.val * c) k = ⊥ := fun k hk =>
    if_pos (by omega)
  rw [sum_first h _ fun k hk => by rw [refCode_of_bot _ k (hs k hk), zero_mul]]
  refine Finset.sum_congr rfl fun k _ => ?_
  have ht : (fun j : Fin n => if j.val ≤ q then S j.val * (c * (L : EReal)) else ⊥)
      = fun j : Fin n => (if q < j.val then ⊥ else S j.val * c) * (L : EReal) := by
    funext j
    by_cases hj : j.val ≤ q
    · rw [if_pos hj, if_neg (by omega), mul_assoc]
    · rw [if_neg hj, if_pos (by omega), EReal.bot_mul_coe_of_pos L_pos]
  rw [refCode_first h _ hs k, ht, kerCode_mul_L, mul_comm]
  rfl

end Cert.Row

end
-- ==== Proof.Tile.lean ====
/- The kernel's work on 128 query rows of a pair of heads, over a number `n` of keys that is a variable: every one of the 24
   tiles a grid point stores is this function at its own `n` (Pieces.lean). The definitions are over any float operations; the
   lemmas say what the tile holds at an index over the extended reals. -/
module

public import proofs.«01_k».proof.Proof.Gen.KernelIdeal.Skeleton
public import proofs.«01_k».proof.Proof.Row
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.Tile

open Idealize.ShloMosaic Idealize.ShloMosaic.ValueIdx
open Cert.KernelIdeal Cert.KernelIdeal.Gen
open scoped BigOperators

/-- A matrix shape. -/
abbrev Mat (a b : ℕ) : Shape := ⟨2, ![a, b]⟩

/-- The values' block of one kv head, its first `n` columns. -/
abbrev VBlk (n : ℕ) : Shape := ⟨4, ![1, 1, 64, n]⟩

/-- The shape facts the tile's operations carry, over `n` keys. -/
structure Facts (n : ℕ) : Prop where
  left : (Mat n 256).Slices ![0, 0] (Mat n 128)
  right : (Mat n 256).Slices ![0, 128] (Mat n 128)
  red : (Mat n 128).Reduces [0] S128
  bcast : S1x128.Broadcasts (Mat n 128)
  vals : (VBlk n).ShapeCasts (Mat 64 n)
  pair : Shape.Concatenates [Mat n 128, Mat n 128] (Mat n 256) 1

/-- The shape facts of masking the last 128 of `a + 128` rows. -/
structure MaskFacts (a n : ℕ) : Prop where
  size : n = a + 128
  last : (Mat n 128).Slices ![a, 0] S128x128
  first : (Mat n 128).Slices ![0, 0] (Mat a 128)
  stack : Shape.Concatenates [Mat a 128, S128x128] (Mat n 128) 0

section Defs
variable {F : FTy → Type} [FloatOps F] [Named F]

/-- The lanes of the query block that belong to head `h` of the pair; the others are zero. -/
def head (qh : IVec S128x128 32) (h : BitVec 32) (xb : Vec F S1x128x128 .fp8e4m3) : FVec F S128x128 .fp8e4m3 :=
  truncf .fp8e4m3 (select (cmpi .eq qh (broadcast S128x128 h))
    (extf .f32 (shapeCast S128x128 xb shapeCasts_S1x128x128_S128x128 : FVec F S128x128 .fp8e4m3) bitsLt_fp8e4m3_f32)
    (broadcast S128x128 (Scalar.sitofp .f32 0#32 : F .f32))) bitsLt_fp8e4m3_f32

/-- The products of `n` keys with the query rows of both heads. -/
def products {n : ℕ} (kn : FVec F (Mat n 128) .fp8e4m3) (qh : IVec S128x128 32) (xb : Vec F S1x128x128 .fp8e4m3) :
    FVec F (Mat n 256) .f32 :=
  matmul (DotDims.transposedRhs n 128 256) none kn
    (concatenate S256x128 0 [⟨S128x128, head qh 0#32 xb⟩, ⟨S128x128, head qh 1#32 xb⟩] concatenates_S128x128_S128x128_S256x128_d0)
    (constant (Mat n 256) .f32 0x00000000#32)

/-- The 128 columns from `o` on, scaled. -/
def scaled {n : ℕ} (o : ℕ) (hs : (Mat n 256).Slices ![0, o] (Mat n 128)) (s : FVec F (Mat n 256) .f32) (q ks : F .f32) :
    FVec F (Mat n 128) .f32 :=
  mulf (extractStridedSlice (Mat n 128) ![0, o] s hs)
    (broadcast (Mat n 128) (Scalar.mulf (Scalar.mulf q ks) (Named.named κ "log2e_over_8" 0x3E38AA3B#32)))

/-- A square of scores masked by `causal`. -/
def maskSquare (causal : IVec S128x128 1) (t : FVec F S128x128 .f32) : FVec F S128x128 .f32 :=
  select causal t (broadcast S128x128 (Scalar.ofBits .f32 0xFF800000#32 : F .f32))

/-- The scores with their last 128 keys masked. -/
def maskLast {a n : ℕ} (h : MaskFacts a n) (causal : IVec S128x128 1) (t : FVec F (Mat n 128) .f32) : FVec F (Mat n 128) .f32 :=
  concatenate (Mat n 128) 0 [⟨Mat a 128, extractStridedSlice (Mat a 128) ![0, 0] t h.first⟩,
    ⟨S128x128, maskSquare causal (extractStridedSlice S128x128 ![a, 0] t h.last)⟩] h.stack

/-- The powers of two of the scores less their column's greatest. -/
def powers {n : ℕ} (h : Facts n) (t : FVec F (Mat n 128) .f32) : FVec F (Mat n 128) .f32 :=
  exp2 (subf t (broadcastTo (Mat n 128)
    (shapeCast S1x128 (multiReduction .maximumf [0] S128 t 0xFF800000#32 h.red (.inl rfl) rfl) shapeCasts_S128_S1x128) h.bcast))

/-- The codes of the scores, column by column. -/
def codes {n : ℕ} (h : Facts n) (t : FVec F (Mat n 128) .f32) : FVec F (Mat n 128) .fp8e4m3 :=
  truncf .fp8e4m3 (minimumf (broadcast (Mat n 128) (Scalar.ofBits .f32 0x43E00000#32 : F .f32))
    (maximumf (broadcast (Mat n 128) (Scalar.ofBits .f32 0x00000000#32 : F .f32))
      (mulf (powers h t) (broadcastTo (Mat n 128)
        (divf (broadcast S1x128 (Scalar.ofBits .f32 0x43E00000#32 : F .f32))
          (shapeCast S1x128 (multiReduction .add [0] S128 (powers h t) 0x00000000#32 h.red (.inl rfl) rfl) shapeCasts_S128_S1x128))
        h.bcast)))) bitsLt_fp8e4m3_f32

/-- The values weighted by the two heads' codes, scaled, transposed into the order of the output. -/
def out {n : ℕ} (h : Facts n) (vb : Vec F (VBlk n) .fp8e4m3) (c0 c1 : FVec F (Mat n 128) .fp8e4m3) (os : F .f32) :
    FVec F S1x128x128 .bf16 :=
  let p : FVec F S64x256 .f32 := mulf (matmul (DotDims.plain 64 n 256) none
      (shapeCast (Mat 64 n) vb h.vals : FVec F (Mat 64 n) .fp8e4m3)
      (concatenate (Mat n 256) 1 [⟨Mat n 128, c0⟩, ⟨Mat n 128, c1⟩] h.pair) (constant S64x256 .f32 0x00000000#32))
    (broadcast S64x256 os)
  shapeCast S1x128x128 (truncf .bf16 (transpose S128x128 [1, 0]
    (concatenate S128x128 0 [⟨S64x128, extractStridedSlice S64x128 ![0, 0] p slices_S64x256_o0_0_S64x128⟩,
      ⟨S64x128, extractStridedSlice S64x128 ![0, 128] p slices_S64x256_o0_128_S64x128⟩] concatenates_S64x128_S64x128_S128x128_d0)
    transposes_S128x128_p1_0_S128x128) bitsLt_bf16_f32 : FVec F S128x128 .bf16) shapeCasts_S128x128_S1x128x128

/-- THE TILE: 128 query rows of two heads over `n` keys, the scores masked by `mask`. -/
def tile {n : ℕ} (h : Facts n) (mask : FVec F (Mat n 128) .f32 → FVec F (Mat n 128) .f32) (kn : FVec F (Mat n 128) .fp8e4m3)
    (qh : IVec S128x128 32) (xb : Vec F S1x128x128 .fp8e4m3) (vb : Vec F (VBlk n) .fp8e4m3) (q0 q1 ks os : F .f32) :
    FVec F S1x128x128 .bf16 :=
  out h vb (codes h (mask (scaled 0 h.left (products kn qh xb) q0 ks))) (codes h (mask (scaled 128 h.right (products kn qh xb) q1 ks))) os

theorem facts_128 : Facts 128 := by constructor <;> decide
theorem facts_256 : Facts 256 := by constructor <;> decide
theorem facts_384 : Facts 384 := by constructor <;> decide
theorem facts_512 : Facts 512 := by constructor <;> decide
theorem facts_640 : Facts 640 := by constructor <;> decide
theorem facts_768 : Facts 768 := by constructor <;> decide
theorem facts_896 : Facts 896 := by constructor <;> decide
theorem facts_1024 : Facts 1024 := by constructor <;> decide
theorem mask_256 : MaskFacts 128 256 := by constructor <;> decide
theorem mask_384 : MaskFacts 256 384 := by constructor <;> decide
theorem mask_512 : MaskFacts 384 512 := by constructor <;> decide
theorem mask_640 : MaskFacts 512 640 := by constructor <;> decide
theorem mask_768 : MaskFacts 640 768 := by constructor <;> decide
theorem mask_896 : MaskFacts 768 896 := by constructor <;> decide
theorem mask_1024 : MaskFacts 896 1024 := by constructor <;> decide

end Defs

/-! ## At an index, over the extended reals -/

/-- The pattern of 448. -/
theorem c448 : Ideal.ofBits .f32 0x43E00000#32 = Row.C := by
  unfold Row.C
  simp [Ideal.ofBits, Ideal.ieee, -EReal.coe_mul]; norm_num

/-- The pattern of minus infinity. -/
theorem neg_inf : Ideal.ofBits .f32 0xFF800000#32 = ⊥ := by
  simp [Ideal.ofBits, Ideal.ieee]

/-- The zero a lane of the other head holds. -/
theorem int_zero : (Scalar.sitofp .f32 0#32 : Ideal .f32) = 0 := by
  show (((0#32 : BitVec 32).toInt : ℝ) : EReal) = 0
  simp

section Layout
variable {α : Type}

/-- A matrix on top of another, read in the upper one. -/
theorem stack_top {a b n m : ℕ} (x : (Mat a m).Idx → α) (y : (Mat b m).Idx → α) (h : Shape.Concatenates [Mat a m, Mat b m] (Mat n m) 0)
    (i : Fin n) (c : Fin m) (j : Fin a) (hj : j.val = i.val) :
    concatenate (Mat n m) 0 [⟨Mat a m, x⟩, ⟨Mat b m, y⟩] h (ix2 i c) = x (ix2 j c) :=
  concatenate_pair_apply_left 0 x y h (ix2 i c) rfl (ix2 j c) fun ax => match ax with
    | ⟨0, _⟩ => hj
    | ⟨1, _⟩ => rfl

/-- A matrix on top of another, read in the lower one. -/
theorem stack_bottom {a b n m : ℕ} (x : (Mat a m).Idx → α) (y : (Mat b m).Idx → α) (h : Shape.Concatenates [Mat a m, Mat b m] (Mat n m) 0)
    (i : Fin n) (c : Fin m) (j : Fin b) (hj : j.val + a = i.val) :
    concatenate (Mat n m) 0 [⟨Mat a m, x⟩, ⟨Mat b m, y⟩] h (ix2 i c) = y (ix2 j c) :=
  concatenate_pair_apply_right 0 x y h (ix2 i c) rfl rfl (ix2 j c) (fun ax hne => match ax with
    | ⟨0, _⟩ => absurd rfl hne
    | ⟨1, _⟩ => rfl) hj

/-- A matrix beside another, read in the left one. -/
theorem beside_left {a b n m : ℕ} (x : (Mat n a).Idx → α) (y : (Mat n b).Idx → α) (h : Shape.Concatenates [Mat n a, Mat n b] (Mat n m) 1)
    (i : Fin n) (c : Fin m) (j : Fin a) (hj : j.val = c.val) :
    concatenate (Mat n m) 1 [⟨Mat n a, x⟩, ⟨Mat n b, y⟩] h (ix2 i c) = x (ix2 i j) :=
  concatenate_pair_apply_left 1 x y h (ix2 i c) rfl (ix2 i j) fun ax => match ax with
    | ⟨0, _⟩ => rfl
    | ⟨1, _⟩ => hj

/-- A matrix beside another, read in the right one. -/
theorem beside_right {a b n m : ℕ} (x : (Mat n a).Idx → α) (y : (Mat n b).Idx → α) (h : Shape.Concatenates [Mat n a, Mat n b] (Mat n m) 1)
    (i : Fin n) (c : Fin m) (j : Fin b) (hj : j.val + a = c.val) :
    concatenate (Mat n m) 1 [⟨Mat n a, x⟩, ⟨Mat n b, y⟩] h (ix2 i c) = y (ix2 i j) :=
  concatenate_pair_apply_right 1 x y h (ix2 i c) rfl rfl (ix2 i j) (fun ax hne => match ax with
    | ⟨0, _⟩ => rfl
    | ⟨1, _⟩ => absurd rfl hne) hj

/-- The values' block as a matrix. -/
theorem vals_apply {n : ℕ} (x : (VBlk n).Idx → α) (h : (VBlk n).ShapeCasts (Mat 64 n)) (d : Fin 64) (k : Fin n) :
    shapeCast (Mat 64 n) x h (ix2 d k) = x (ix4 0 0 d k) :=
  congrArg x (reshapeEquiv_ix2_11ab _ d k)

end Layout

/-- The source index over column `c` with row `k`. -/
theorem lift_ix {n : ℕ} (h : (Mat n 128).Reduces [0] S128) (c : Fin 128) (k : Fin n) : h.lift (ix1 c) k = ix2 k c := by
  funext ax
  match ax with
  | ⟨0, _⟩ => rfl
  | ⟨1, _⟩ => rfl

/-- A column's greatest score. -/
theorem greatest_apply {n : ℕ} (h : (Mat n 128).Reduces [0] S128) (t : FVec Ideal (Mat n 128) .f32) (hφ hacc) (c : Fin 128) :
    multiReduction .maximumf [0] S128 t 0xFF800000#32 h hφ hacc (ix1 c) = Finset.univ.sup fun j : Fin n => t (ix2 j c) := by
  refine (Ideal.multiReduction_maximumf_single (a := 0) t _ h hφ hacc (ix1 c)).trans ?_
  show Finset.fold max (Ideal.ofBits .f32 0xFF800000#32) _ _ = _
  rw [neg_inf]
  exact congrArg (fun f => Finset.fold max ⊥ f Finset.univ) (funext fun j => congrArg t (lift_ix h c j))

/-- A column's sum. -/
theorem sum_apply {n : ℕ} (h : (Mat n 128).Reduces [0] S128) (t : FVec Ideal (Mat n 128) .f32) (hφ hacc) (c : Fin 128) :
    multiReduction .add [0] S128 t 0x00000000#32 h hφ hacc (ix1 c) = ∑ j : Fin n, t (ix2 j c) :=
  (Ideal.multiReduction_add_single (a := 0) t _ h hφ hacc (ix1 c)).trans
    (Finset.sum_congr rfl fun j _ => congrArg t (lift_ix h c j))

theorem powers_apply {n : ℕ} (h : Facts n) (t : FVec Ideal (Mat n 128) .f32) (k : Fin n) (c : Fin 128) :
    powers h t (ix2 k c) = Ideal.exp2 (t (ix2 k c) - Finset.univ.sup fun j : Fin n => t (ix2 j c)) := by
  show Ideal.exp2 (t (ix2 k c) - broadcastTo (Mat n 128) _ h.bcast (ix2 k c)) = _
  rw [broadcastTo_1b_ab_apply, shapeCast_a_1a_apply]
  exact congrArg (fun g => Ideal.exp2 (t (ix2 k c) - g)) (greatest_apply h.red t _ _ c)

theorem codes_apply {n : ℕ} (h : Facts n) (t : FVec Ideal (Mat n 128) .f32) (k : Fin n) (c : Fin 128) :
    codes h t (ix2 k c) = Row.kerCode (fun j : Fin n => t (ix2 j c)) k := by
  show min (Ideal.ofBits .f32 0x43E00000#32) (max (Ideal.ofBits .f32 0x00000000#32)
    (powers h t (ix2 k c) * broadcastTo (Mat n 128) _ h.bcast (ix2 k c))) = _
  rw [broadcastTo_1b_ab_apply, powers_apply, c448, Ideal.ofBits_zero_f32]
  show min _ (max _ (_ * Ideal.div (Ideal.ofBits .f32 0x43E00000#32) (shapeCast S1x128 _ _ (ix2 0 c)))) = _
  rw [shapeCast_a_1a_apply, c448]
  unfold Row.kerCode
  refine congrArg (fun g => min Row.C (max 0 (_ * Ideal.div Row.C g))) ((sum_apply h.red (powers h t) _ _ c).trans ?_)
  exact Finset.sum_congr rfl fun j _ => powers_apply h t j c

theorem head_apply (qh : IVec S128x128 32) (hd : ℕ) (hh : hd < 2) (xb : Vec Ideal S1x128x128 .fp8e4m3)
    (hqh : ∀ r l : Fin 128, qh (ix2 r l) = BitVec.ofNat 32 (l.val / 64)) (r l : Fin 128) :
    head qh (BitVec.ofNat 32 hd) xb (ix2 r l) = if l.val / 64 = hd then xb (ix3 0 r l) else 0 := by
  show (if BitVec.ofBool (qh (ix2 r l) == BitVec.ofNat 32 hd) = 1 then _ else (Scalar.sitofp .f32 0#32 : Ideal .f32)) = _
  rw [hqh, int_zero]
  have he : (BitVec.ofBool (BitVec.ofNat 32 (l.val / 64) == BitVec.ofNat 32 hd) = 1) ↔ l.val / 64 = hd := by
    have := l.isLt
    obtain h0 | h1 : l.val / 64 = 0 ∨ l.val / 64 = 1 := by omega
    · rw [h0]; interval_cases hd <;> simp
    · rw [h1]; interval_cases hd <;> simp
  simp only [he]
  refine if_congr Iff.rfl ?_ rfl
  exact shapeCast_1ab_ab_apply xb _ r l

/-- The products at a key and a query row, in the columns of either head. -/
theorem products_apply {n : ℕ} (kn : FVec Ideal (Mat n 128) .fp8e4m3) (qh : IVec S128x128 32) (xb : Vec Ideal S1x128x128 .fp8e4m3)
    (hqh : ∀ r l : Fin 128, qh (ix2 r l) = BitVec.ofNat 32 (l.val / 64)) (hd : ℕ) (hh : hd < 2) (k : Fin n) (r : Fin 128)
    (c : Fin 256) (hc : c.val = hd * 128 + r.val) :
    products kn qh xb (ix2 k c) = ∑ l : Fin 128, kn (ix2 k l) * (if l.val / 64 = hd then xb (ix3 0 r l) else 0) := by
  refine (Ideal.matmul_transposedRhs_apply none kn _ _ k c).trans ?_
  rw [show constant (F := Ideal) (Mat n 256) .f32 0x00000000#32 (ix2 k c) = 0 from Ideal.ofBits_zero_f32, zero_add]
  refine Finset.sum_congr rfl fun l _ => congrArg (kn (ix2 k l) * ·) ?_
  interval_cases hd
  · refine (stack_top _ _ _ c l r (by omega)).trans (head_apply qh 0 hh xb hqh r l)
  · refine (stack_bottom _ _ _ c l r (by omega)).trans (head_apply qh 1 hh xb hqh r l)

/-- The tile's output at an index, from the codes. -/
theorem out_apply {n : ℕ} (h : Facts n) (vb : Vec Ideal (VBlk n) .fp8e4m3) (c0 c1 : FVec Ideal (Mat n 128) .fp8e4m3)
    (os : Ideal .f32) (u : Fin 1) (r l : Fin 128) (d : Fin 64) (hd : d.val = l.val % 64) :
    out h vb c0 c1 os (ix3 u r l) = (∑ k : Fin n, vb (ix4 0 0 d k) * (if l.val / 64 = 0 then c0 else c1) (ix2 k r)) * os := by
  have hp : ∀ c : Fin 256, ∀ w : Fin n → EReal,
      (∀ k, concatenate (Mat n 256) 1 [⟨Mat n 128, c0⟩, ⟨Mat n 128, c1⟩] h.pair (ix2 k c) = w k) →
      mulf (matmul (DotDims.plain 64 n 256) none (shapeCast (Mat 64 n) vb h.vals : FVec Ideal (Mat 64 n) .fp8e4m3)
        (concatenate (Mat n 256) 1 [⟨Mat n 128, c0⟩, ⟨Mat n 128, c1⟩] h.pair) (constant S64x256 .f32 0x00000000#32))
        (broadcast S64x256 os) (ix2 d c) = (∑ k : Fin n, vb (ix4 0 0 d k) * w k) * os := by
    intro c w hw
    refine congrArg (· * os) ((Ideal.matmul_plain_apply none _ _ _ d c).trans ?_)
    rw [show constant (F := Ideal) S64x256 .f32 0x00000000#32 (ix2 d c) = 0 from Ideal.ofBits_zero_f32, zero_add]
    exact Finset.sum_congr rfl fun k _ => by rw [hw k]; exact congrArg (· * w k) (vals_apply vb h.vals d k)
  have hl := l.isLt
  have hr := r.isLt
  unfold out
  refine (shapeCast_ab_1ab_apply _ _ u r l).trans ?_
  rw [truncf_apply]
  refine (transpose_ix2_apply _ _ r l).trans ?_
  by_cases h0 : l.val / 64 = 0
  · rw [if_pos h0]
    refine (stack_top _ _ _ l r d (by omega)).trans ?_
    refine (slice2_axis1_apply 0 _ _ d r ⟨r.val, by omega⟩ (by simp)).trans (hp _ _ fun k => ?_)
    exact beside_left c0 c1 h.pair k _ r rfl
  · rw [if_neg h0]
    refine (stack_bottom _ _ _ l r d (by omega)).trans ?_
    refine (slice2_axis1_apply 128 _ _ d r ⟨128 + r.val, by omega⟩ rfl).trans (hp _ _ fun k => ?_)
    exact beside_right c0 c1 h.pair k _ r (by simp [Nat.add_comm])

/-- The kernel's factor between products and exponents. -/
def factor : EReal := Named.named (F := Ideal) (φ := .f32) κ "log2e_over_8" 0x3E38AA3B#32

/-- The mask keeps, in column `c`, the keys up to `a + c`. -/
def Masks {n : ℕ} (a : ℕ) (mask : FVec Ideal (Mat n 128) .f32 → FVec Ideal (Mat n 128) .f32) : Prop :=
  ∀ t (k : Fin n) (c : Fin 128), mask t (ix2 k c) = if k.val ≤ a + c.val then t (ix2 k c) else ⊥

/-- THE TILE AT AN INDEX: row `r`, lane `l` is head `l / 64` of the pair and its value column `l % 64`. -/
theorem tile_apply {n : ℕ} (h : Facts n) (a : ℕ) (mask : FVec Ideal (Mat n 128) .f32 → FVec Ideal (Mat n 128) .f32)
    (hm : Masks a mask) (kn : FVec Ideal (Mat n 128) .fp8e4m3) (qh : IVec S128x128 32)
    (hqh : ∀ r l : Fin 128, qh (ix2 r l) = BitVec.ofNat 32 (l.val / 64)) (xb : Vec Ideal S1x128x128 .fp8e4m3)
    (vb : Vec Ideal (VBlk n) .fp8e4m3) (q0 q1 ks os : Ideal .f32) (u : Fin 1) (r l : Fin 128) (d : Fin 64) (hd : d.val = l.val % 64) :
    tile h mask kn qh xb vb q0 q1 ks os (ix3 u r l) = (∑ k : Fin n, vb (ix4 0 0 d k) * Row.kerCode (fun j : Fin n =>
      if j.val ≤ a + r.val then (∑ l' : Fin 128, kn (ix2 j l') * (if l'.val / 64 = l.val / 64 then xb (ix3 0 r l') else 0))
        * ((if l.val / 64 = 0 then q0 else q1) * ks * factor) else ⊥) k) * os := by
  have hr := r.isLt
  have hl := l.isLt
  refine (out_apply h vb _ _ os u r l d hd).trans (congrArg (· * os) (Finset.sum_congr rfl fun k _ => congrArg (vb (ix4 0 0 d k) * ·) ?_))
  by_cases h0 : l.val / 64 = 0
  · rw [if_pos h0]
    refine (codes_apply h _ k r).trans (congrArg (Row.kerCode · k) (funext fun j => (hm _ j r).trans (if_congr Iff.rfl ?_ rfl)))
    rw [if_pos h0, h0]
    refine congrArg (· * _) ((slice2_axis1_apply 0 _ _ j r ⟨r.val, by omega⟩ (by simp)).trans ?_)
    exact products_apply kn qh xb hqh 0 (by omega) j r _ (by simp)
  · have h1 : l.val / 64 = 1 := by omega
    rw [if_neg h0]
    refine (codes_apply h _ k r).trans (congrArg (Row.kerCode · k) (funext fun j => (hm _ j r).trans (if_congr Iff.rfl ?_ rfl)))
    rw [if_neg h0, h1]
    refine congrArg (· * _) ((slice2_axis1_apply 128 _ _ j r ⟨128 + r.val, by omega⟩ rfl).trans ?_)
    exact products_apply kn qh xb hqh 1 (by omega) j r _ (by simp)

/-- Masking a square. -/
theorem maskSquare_masks (causal : IVec S128x128 1)
    (hc : ∀ k c : Fin 128, causal (ix2 k c) = BitVec.ofBool (decide (k.val ≤ c.val))) : Masks 0 (maskSquare (F := Ideal) causal) := by
  intro t k c
  show (if causal (ix2 k c) = 1 then t (ix2 k c) else Ideal.ofBits .f32 0xFF800000#32) = _
  rw [hc, neg_inf]
  refine if_congr ?_ rfl rfl
  rw [Nat.zero_add]
  by_cases hk : k.val ≤ c.val <;> simp [hk]

/-- Masking the last 128 keys. -/
theorem maskLast_masks {a n : ℕ} (h : MaskFacts a n) (causal : IVec S128x128 1)
    (hc : ∀ k c : Fin 128, causal (ix2 k c) = BitVec.ofBool (decide (k.val ≤ c.val))) : Masks a (maskLast (F := Ideal) h causal) := by
  intro t k c
  have hk := k.isLt
  have hn := h.size
  by_cases hka : k.val < a
  · rw [if_pos (by omega)]
    refine (stack_top _ _ _ k c ⟨k.val, hka⟩ rfl).trans ?_
    exact slice2_axis0_apply 0 t h.first _ c k (by simp)
  · refine (stack_bottom _ _ _ k c ⟨k.val - a, by omega⟩ (by simp; omega)).trans ?_
    refine (maskSquare_masks causal hc _ ⟨k.val - a, by omega⟩ c).trans (if_congr (by simp; omega) ?_ rfl)
    exact slice2_axis0_apply a t h.last _ c k (by simp; omega)

end Cert.Tile

end
-- ==== Proof.Pieces.lean ====
/- What a grid point stores: its 24 pieces are the tile of Tile.lean, at eight blocks of query rows and three pairs of heads. -/
module

public import proofs.«01_k».proof.Proof.Tile
public import proofs.«01_k».proof.Proof.Gen.KernelIdeal.Frame

@[expose] public section

set_option maxRecDepth 16384

noncomputable section

namespace Cert.Pieces

open Idealize.ShloMosaic Idealize.ShloMosaic.TcCoe Idealize.ShloMosaic.ValueIdx
open Cert.KernelIdeal Cert.KernelIdeal.Gen Cert.Tile

variable {F : FTy → Type}

/-- The six inputs of a grid point: whole buffers and what they hold. -/
structure Ins (F : FTy → Type) where
  arg2 : Memref sig .tc .smem S48 .f32
  harg2 : arg2.IsWhole
  arg3 : Memref sig .tc .smem S8 .f32
  harg3 : arg3.IsWhole
  arg4 : Memref sig .tc .smem S8 .f32
  harg4 : arg4.IsWhole
  arg5 : Memref sig .tc .vmem S1x1024x384 .fp8e4m3
  harg5 : arg5.IsWhole
  arg6 : Memref sig .tc .vmem S1x1024x128 .fp8e4m3
  harg6 : arg6.IsWhole
  arg7 : Memref sig .tc .vmem S1x1x64x1024 .fp8e4m3
  harg7 : arg7.IsWhole
  x0 : Vec F S48 .f32
  x1 : Vec F S8 .f32
  x2 : Vec F S8 .f32
  x3 : Vec F S1x1024x384 .fp8e4m3
  x4 : Vec F S1x1024x128 .fp8e4m3
  x5 : Vec F S1x1x64x1024 .fp8e4m3

theorem inbX (q : ℕ) (p : Fin 3) (hq : q + 128 ≤ 1024) (a : Fin 3) :
    ![0, q, 128 * p.val] a + ![1, 128, 128] a ≤ S1x1024x384.size a := by
  fin_cases a
  · exact le_refl 1
  · exact hq
  · have := p.isLt
    show 128 * p.val + 128 ≤ 384
    omega

theorem inbV (n : ℕ) (hn : n ≤ 1024) (a : Fin 4) : ![0, 0, 0, 0] a + ![1, 1, 64, n] a ≤ S1x1x64x1024.size a := by
  fin_cases a
  · exact le_refl 1
  · exact le_refl 1
  · exact le_refl 64
  · show 0 + n ≤ 1024
    omega

/-- The query scale of head `h` of pair `p`. -/
noncomputable def readQ (R : Ins F) (i : grid0.Coords) (p : Fin 3) (h : Fin 2) : F .f32 :=
  View.readAt (Elt F) R.arg2.view
    (Rect.unit (s := S48) (k0_off2 i (BitVec.ofNat 32 (2 * p.val)) (BitVec.ofNat 32 h.val)) S1.size (k0_off2_inb i p h)).toLoadRect
    (R.harg2.unread R.x0) (Shape.Idx.first (s := S1) (by decide))

/-- The key scale. -/
noncomputable def readK (R : Ins F) (i : grid0.Coords) : F .f32 :=
  View.readAt (Elt F) R.arg3.view (Rect.unit (s := S8) (k0_off1 i) S1.size (k0_off1_inb i)).toLoadRect (R.harg3.unread R.x1) (Shape.Idx.first (s := S1) (by decide))

/-- The value scale. -/
noncomputable def readVs (R : Ins F) (i : grid0.Coords) : F .f32 :=
  View.readAt (Elt F) R.arg4.view (Rect.unit (s := S8) (k0_off1 i) S1.size (k0_off1_inb i)).toLoadRect (R.harg4.unread R.x2) (Shape.Idx.first (s := S1) (by decide))

/-- 128 query rows of pair `p`, from row `q` on. -/
noncomputable def readX (R : Ins F) (q : ℕ) (p : Fin 3) (hq : q + 128 ≤ 1024) : Vec F S1x128x128 .fp8e4m3 :=
  View.readAt (Elt F) R.arg5.view (Rect.unit (s := S1x1024x384) ![0, q, 128 * p.val] ![1, 128, 128] (inbX q p hq)).toLoadRect (R.harg5.unread R.x3)

/-- The first `n` columns of the values. -/
noncomputable def readV (R : Ins F) (n : ℕ) (hn : n ≤ 1024) : Vec F (VBlk n) .fp8e4m3 :=
  View.readAt (Elt F) R.arg7.view (Rect.unit (s := S1x1x64x1024) ![0, 0, 0, 0] ![1, 1, 64, n] (inbV n hn)).toLoadRect (R.harg7.unread R.x5)

/-- The keys of a grid point's kv head, in both halves of the lanes. -/
noncomputable def keys [FloatOps F] (R : Ins F) (c : Dev nD) (i : grid0.Coords) : FVec F S1024x128 .fp8e4m3 :=
  kernelRun0_A.sl.v42 c i R.arg6 R.harg6 R.x4

/-- Which half of the lanes a lane is in. -/
noncomputable abbrev half : IVec S128x128 32 := kernelRun0_A.sl.v67

/-- The keys a query row sees, within a square. -/
noncomputable abbrev causal : IVec S128x128 1 := cmpi .sle kernelRun0_A.sl.v68 kernelRun0_A.sl.v43

variable [FloatOps F] [Named F]

/-- The tile of pair `p` over `n` keys, of the query rows from `q` on. -/
noncomputable def piece (R : Ins F) (i : grid0.Coords) {n : ℕ} (h : Facts n) (hn : n ≤ 1024)
    (mask : FVec F (Mat n 128) .f32 → FVec F (Mat n 128) .f32) (kn : FVec F (Mat n 128) .fp8e4m3)
    (q : ℕ) (hq : q + 128 ≤ 1024) (p : Fin 3) : View.Piece (Elt F) S1x1024x384 .bf16 :=
  ⟨Rect.unit (s := S1x1024x384) ![0, q, 128 * p.val] ![1, 128, 128] (inbX q p hq),
    tile h mask kn half (readX R q p hq) (readV R n hn) (readQ R i p 0) (readQ R i p 1) (readK R i)
      (Scalar.mulf (readVs R i) (Scalar.ofBits .f32 0x3B124925#32))⟩

/-- The three pieces of one block of query rows, last first. -/
noncomputable def row (R : Ins F) (i : grid0.Coords) {n : ℕ} (h : Facts n) (hn : n ≤ 1024)
    (mask : FVec F (Mat n 128) .f32 → FVec F (Mat n 128) .f32) (kn : FVec F (Mat n 128) .fp8e4m3)
    (q : ℕ) (hq : q + 128 ≤ 1024) : List (View.Piece (Elt F) S1x1024x384 .bf16) :=
  [piece R i h hn mask kn q hq 2, piece R i h hn mask kn q hq 1, piece R i h hn mask kn q hq 0]

/-- The first `n` keys. -/
noncomputable def firstKeys (R : Ins F) (c : Dev nD) (i : grid0.Coords) (n : ℕ) (h : S1024x128.Slices ![0, 0] (Mat n 128)) : FVec F (Mat n 128) .fp8e4m3 :=
  extractStridedSlice (Mat n 128) ![0, 0] (keys R c i) h

/-- All pieces of a grid point, last first. -/
noncomputable def pieces (R : Ins F) (c : Dev nD) (i : grid0.Coords) : List (View.Piece (Elt F) S1x1024x384 .bf16) :=
  row R i facts_1024 (by decide) (maskLast mask_1024 causal) (keys R c i) 896 (by decide)
  ++ row R i facts_896 (by decide) (maskLast mask_896 causal) (firstKeys R c i 896 (by decide)) 768 (by decide)
  ++ row R i facts_768 (by decide) (maskLast mask_768 causal) (firstKeys R c i 768 (by decide)) 640 (by decide)
  ++ row R i facts_640 (by decide) (maskLast mask_640 causal) (firstKeys R c i 640 (by decide)) 512 (by decide)
  ++ row R i facts_512 (by decide) (maskLast mask_512 causal) (firstKeys R c i 512 (by decide)) 384 (by decide)
  ++ row R i facts_384 (by decide) (maskLast mask_384 causal) (firstKeys R c i 384 (by decide)) 256 (by decide)
  ++ row R i facts_256 (by decide) (maskLast mask_256 causal) (firstKeys R c i 256 (by decide)) 128 (by decide)
  ++ row R i facts_128 (by decide) (maskSquare causal) (firstKeys R c i 128 (by decide)) 0 (by decide)

/-- The pieces of the run are these. -/
theorem run_pieces (R : Ins F) (c : Dev nD) (i : grid0.Coords) (arg8 : Memref sig .tc .vmem S1x1024x384 .bf16) (harg8 : arg8.IsWhole) :
    (kernelRun0_A c i R.arg2 R.harg2 R.arg3 R.harg3 R.arg4 R.harg4 R.arg5 R.harg5 R.arg6 R.harg6 R.arg7 R.harg7 arg8 harg8
      R.x0 R.x1 R.x2 R.x3 R.x4 R.x5).1 = pieces R c i := rfl

end Cert.Pieces

end
-- ==== Proof.Block.lean ====
/- What a grid point's block holds at an index, over the extended reals: the reference's attention of that row and column,
   written over the point's input blocks. -/
module

public import proofs.«01_k».proof.Proof.Pieces
public import Idealize.ShloMosaic.Lib.WholeRead
public import Idealize.ShloMosaic.Lib.Pipeline.ValueKit.Tiles
public import Idealize.ShloMosaic.Lib.KernelVsHost

@[expose] public section

set_option maxRecDepth 16384

noncomputable section

namespace Cert.Pieces

open Idealize.ShloMosaic Idealize.ShloMosaic.TcCoe Idealize.ShloMosaic.ValueIdx
open Cert.KernelIdeal Cert.KernelIdeal.Gen Cert.Tile
open scoped BigOperators

/-! ## The index arithmetic of the masks -/

/-- A lane's half. -/
theorem half_apply (r l : Fin 128) : half (ix2 r l) = BitVec.ofNat 32 (l.val / 64) :=
  (by decide +kernel : ∀ l : Fin 128, half (ix2 (0 : Fin 128) l) = BitVec.ofNat 32 (l.val / 64)) l

/-- A query row sees the keys up to its own position. -/
theorem causal_apply (k c : Fin 128) : causal (ix2 k c) = BitVec.ofBool (decide (k.val ≤ c.val)) := by
  show BitVec.ofBool (BitVec.sle (BitVec.ofNat 32 (0 * 128 + k.val)) (BitVec.ofNat 32 (0 * 128 + c.val))) = _
  have hk := k.isLt
  have hc := c.isLt
  rw [BitVec.sle_eq_decide, BitVec.toInt_eq_toNat_cond, BitVec.toInt_eq_toNat_cond, BitVec.toNat_ofNat, BitVec.toNat_ofNat]
  refine congrArg BitVec.ofBool (decide_eq_decide.mpr ?_)
  rw [if_pos (by omega), if_pos (by omega)]
  omega

/-- Which half of the key block a grid point's kv head is. -/
theorem side_apply (i : grid0.Coords) (k : Fin 1024) (l : Fin 128) :
    k0_pay3 i (ix2 k l) = BitVec.ofBool (decide (l.val / 64 = (i 1).val % 2)) :=
  (by decide +kernel : ∀ i : grid0.Coords, ∀ l : Fin 128,
    k0_pay3 i (ix2 (0 : Fin 1024) l) = BitVec.ofBool (decide (l.val / 64 = (i 1).val % 2))) i l

/-! ## The loads -/

variable (R : Ins Ideal) (c : Dev nD) (i : grid0.Coords)

theorem readX_apply (q : ℕ) (p : Fin 3) (hq : q + 128 ≤ 1024) (r l : Fin 128) (r' : Fin 1024) (l' : Fin 384)
    (hr : r'.val = q + r.val) (hl : l'.val = 128 * p.val + l.val) : readX R q p hq (ix3 0 r l) = R.x3 (ix3 0 r' l') := by
  unfold readX
  refine (R.harg5.readAt_unread R.x3 _ _).trans (congrArg R.x3 (funext fun a => Fin.ext ?_))
  refine (Rect.idx_unit_val _ _ _ _ _).trans ?_
  match a with
  | ⟨0, _⟩ => rfl
  | ⟨1, _⟩ => exact hr.symm
  | ⟨2, _⟩ => exact hl.symm

theorem readV_apply (n : ℕ) (hn : n ≤ 1024) (d : Fin 64) (k : Fin n) (k' : Fin 1024) (hk : k'.val = k.val) :
    readV R n hn (ix4 0 0 d k) = R.x5 (ix4 0 0 d k') := by
  unfold readV
  refine (R.harg7.readAt_unread R.x5 _ _).trans (congrArg R.x5 (funext fun a => Fin.ext ?_))
  refine (Rect.idx_unit_val _ _ _ _ _).trans ?_
  match a with
  | ⟨0, _⟩ => rfl
  | ⟨1, _⟩ => rfl
  | ⟨2, _⟩ => exact Nat.zero_add _
  | ⟨3, _⟩ => exact (Nat.zero_add _).trans hk.symm

theorem readQ_apply (p : Fin 3) (h : Fin 2) (e : Fin 48) (he : e.val = 6 * (i 1).val + 2 * p.val + h.val) :
    readQ R i p h = R.x0 (ix1 e) := by
  unfold readQ
  refine (R.harg2.readAt_unread R.x0 _ _).trans (congrArg R.x0 (funext fun a => Fin.ext ?_))
  refine (Rect.idx_unit_val _ _ _ _ _).trans ?_
  match a with
  | ⟨0, _⟩ => exact (congrArg (fun o : Fin 1 → ℕ => o 0 + 0) (k0_off2_eq i p h)).trans he.symm

theorem readK_apply (e : Fin 8) (he : e.val = (i 1).val) : readK R i = R.x1 (ix1 e) := by
  unfold readK
  refine (R.harg3.readAt_unread R.x1 _ _).trans (congrArg R.x1 (funext fun a => Fin.ext ?_))
  refine (Rect.idx_unit_val _ _ _ _ _).trans ?_
  match a with
  | ⟨0, _⟩ => exact (congrArg (fun o : Fin 1 → ℕ => o 0 + 0) (k0_off1_eq i)).trans he.symm

theorem readVs_apply (e : Fin 8) (he : e.val = (i 1).val) : readVs R i = R.x2 (ix1 e) := by
  unfold readVs
  refine (R.harg4.readAt_unread R.x2 _ _).trans (congrArg R.x2 (funext fun a => Fin.ext ?_))
  refine (Rect.idx_unit_val _ _ _ _ _).trans ?_
  match a with
  | ⟨0, _⟩ => exact (congrArg (fun o : Fin 1 → ℕ => o 0 + 0) (k0_off1_eq i)).trans he.symm

/-- The key block as it is loaded. -/
def readKeys : Vec Ideal S1x1024x128 .fp8e4m3 :=
  View.readAt (Elt Ideal) R.arg6.view (Rect.unit (s := S1x1024x128) ![0, 0, 0] ![1, 1024, 128] (by decide)).toLoadRect (R.harg6.unread R.x4)

theorem readKeys_apply (k : Fin 1024) (l : Fin 128) : readKeys R (ix3 0 k l) = R.x4 (ix3 0 k l) := by
  unfold readKeys
  refine (R.harg6.readAt_unread R.x4 _ _).trans (congrArg R.x4 (funext fun a => Fin.ext ?_))
  refine (Rect.idx_unit_val _ _ _ _ _).trans ?_
  match a with
  | ⟨0, _⟩ => rfl
  | ⟨1, _⟩ => exact Nat.zero_add _
  | ⟨2, _⟩ => exact Nat.zero_add _

theorem keys_eq : keys R c i = k0_pay5 (k0_pay2 (readKeys R)) (k0_pay3 i) (k0_pay4 (readKeys R)) := rfl

theorem wide_apply (k : Fin 1024) (l : Fin 128) : k0_pay2 (readKeys R) (ix2 k l) = R.x4 (ix3 0 k l) :=
  (shapeCast_1ab_ab_apply (readKeys R) _ k l).trans (readKeys_apply R k l)

/-- Each half of the lanes holds the grid point's own kv head. -/
theorem keys_apply (k : Fin 1024) (l l' : Fin 128) (hl : l'.val = 64 * ((i 1).val % 2) + l.val % 64) :
    keys R c i (ix2 k l) = R.x4 (ix3 0 k l') := by
  rw [keys_eq]
  show (if k0_pay3 i (ix2 k l) = 1 then k0_pay2 (readKeys R) (ix2 k l) else k0_pay4 (readKeys R) (ix2 k l)) = _
  have hb := l.isLt
  rw [side_apply]
  by_cases h : l.val / 64 = (i 1).val % 2
  · rw [if_pos (by simp [h]), wide_apply]
    exact congrArg (fun e => R.x4 (ix3 0 k e)) (Fin.ext (by omega))
  · rw [if_neg (by simp [h])]
    refine (dynamicRotate_apply (s := S1024x128) 1 64#32 (k0_pay2 (readKeys R)) Cert.KernelIdeal.Gen.facts.rotates_S1024x128_d1 (ix2 k l) (ix2 k l') fun b => ?_).trans (wide_apply R k l')
    match b with
    | ⟨0, _⟩ => rfl
    | ⟨1, _⟩ =>
      show l'.val = (l.val + 128 - 64 % 128) % 128
      omega

theorem firstKeys_apply (n : ℕ) (hn : n ≤ 1024) (h : S1024x128.Slices ![0, 0] (Mat n 128)) (k : Fin n) (l l' : Fin 128)
    (hl : l'.val = 64 * ((i 1).val % 2) + l.val % 64) :
    firstKeys R c i n h (ix2 k l) = R.x4 (ix3 0 ⟨k.val, by omega⟩ l') :=
  (slice2_axis0_apply 0 (keys R c i) h k l ⟨k.val, by omega⟩ (by simp)).trans (keys_apply R c i _ l l' hl)

end Cert.Pieces

end
-- ==== Proof.BlockValue.lean ====
/- The value of a grid point's block at an index, over the extended reals. -/
module

public import proofs.«01_k».proof.Proof.Block

@[expose] public section

set_option maxRecDepth 16384

noncomputable section

namespace Cert.Pieces

open Idealize.ShloMosaic Idealize.ShloMosaic.TcCoe Idealize.ShloMosaic.ValueIdx
open Cert.KernelIdeal Cert.KernelIdeal.Gen Cert.Tile
open scoped BigOperators

/-- The kernel's constant is an eighth over the logarithm of two. -/
theorem factor_eq : factor = Ideal.ofBits .f32 0x3E000000#32 * (Row.L : EReal) := by
  have h : Ideal.ofBits .f32 0x3E000000#32 = (((8 : ℝ)⁻¹ : ℝ) : EReal) := by
    simp [Ideal.ofBits, Ideal.ieee, -EReal.coe_mul]; norm_num
  rw [h, ← EReal.coe_mul]
  rfl

/-- A sum over both halves of the lanes that is zero off one half is that half's. -/
theorem half_sum (A B : Fin 128 → EReal) (s : Fin 2) :
    ∑ l : Fin 128, A l * (if l.val / 64 = s.val then B l else 0)
      = ∑ x : Fin 64, A ⟨64 * s.val + x.val, by omega⟩ * B ⟨64 * s.val + x.val, by omega⟩ := by
  refine (Fin.sum_univ_add (a := 64) (b := 64) fun l : Fin 128 => A l * (if l.val / 64 = s.val then B l else 0)).trans ?_
  match s with
  | ⟨0, _⟩ =>
    rw [Finset.sum_eq_zero (s := Finset.univ) (f := fun x : Fin 64 => A (Fin.natAdd 64 x) * _) fun x _ => ?_, add_zero]
    · refine Finset.sum_congr rfl fun x _ => ?_
      have e : (⟨64 * 0 + x.val, by omega⟩ : Fin 128) = Fin.castAdd 64 x := Fin.ext (by simp)
      have hx := x.isLt
      show _ = A ⟨64 * 0 + x.val, _⟩ * B ⟨64 * 0 + x.val, _⟩
      rw [e, if_pos (by show x.val / 64 = 0; omega)]
    · have hx := x.isLt
      rw [if_neg (by show ¬(64 + x.val) / 64 = 0; omega), mul_zero]
  | ⟨1, _⟩ =>
    rw [Finset.sum_eq_zero (s := Finset.univ) (f := fun x : Fin 64 => A (Fin.castAdd 64 x) * _) fun x _ => ?_, zero_add]
    · refine Finset.sum_congr rfl fun x _ => ?_
      have e : (⟨64 * 1 + x.val, by omega⟩ : Fin 128) = Fin.natAdd 64 x := Fin.ext (by show 64 * 1 + x.val = 64 + x.val; omega)
      have hx := x.isLt
      show _ = A ⟨64 * 1 + x.val, _⟩ * B ⟨64 * 1 + x.val, _⟩
      rw [e, if_pos (by show (64 + x.val) / 64 = 1; omega)]
    · have hx := x.isLt
      rw [if_neg (by show ¬x.val / 64 = 1; omega), mul_zero]

variable (R : Ins Ideal) (c : Dev nD) (i : grid0.Coords)

/-- The kv head of a grid point. -/
def kv : Fin 8 := ⟨(i 1).val, (i 1).isLt⟩

/-- A query's product with a key, of head `g` of the grid point. -/
def product (r k : Fin 1024) (g : Fin 6) : EReal :=
  ∑ x : Fin 64, R.x3 (ix3 0 r ⟨64 * g.val + x.val, by omega⟩) * R.x4 (ix3 0 k ⟨64 * ((i 1).val % 2) + x.val, by omega⟩)

/-- The scale of head `g`'s products. -/
def scale (g : Fin 6) : EReal :=
  R.x0 (ix1 ⟨6 * (kv i).val + g.val, by omega⟩) * R.x1 (ix1 (kv i)) * Ideal.ofBits .f32 0x3E000000#32

/-- The block's value at row `r`, head `g`, coordinate `d`. -/
def value (r : Fin 1024) (g : Fin 6) (d : Fin 64) : EReal :=
  (∑ k : Fin 1024, Row.refCode (fun j : Fin 1024 => if r.val < j.val then ⊥ else product R i r j g * scale R i g) k * R.x5 (ix4 0 0 d k))
    * (R.x2 (ix1 (kv i)) * Ideal.ofBits .f32 0x3B124925#32)

/-- ONE TILE: of pair `p`, over the first `n` keys, of the query rows from `q` on. -/
theorem piece_apply {n : ℕ} (h : Facts n) (hn : n ≤ 1024) (q : ℕ) (hqn : q + 128 ≤ n)
    (mask : FVec Ideal (Mat n 128) .f32 → FVec Ideal (Mat n 128) .f32) (hm : Masks q mask) (kn : FVec Ideal (Mat n 128) .fp8e4m3)
    (hkn : ∀ (k : Fin n) (l l' : Fin 128), l'.val = 64 * ((i 1).val % 2) + l.val % 64 →
      kn (ix2 k l) = R.x4 (ix3 0 ⟨k.val, by omega⟩ l'))
    (hq : q + 128 ≤ 1024) (p : Fin 3) (u : Fin 1) (r l : Fin 128) (r' : Fin 1024) (g : Fin 6) (d : Fin 64)
    (hr : r'.val = q + r.val) (hg : g.val = 2 * p.val + l.val / 64) (hd : d.val = l.val % 64) :
    tile h mask kn half (readX R q p hq) (readV R n hn) (readQ R i p 0) (readQ R i p 1) (readK R i)
      (Scalar.mulf (readVs R i) (Scalar.ofBits .f32 0x3B124925#32)) (ix3 u r l) = value R i r' g d := by
  have hr' := r.isLt
  have hl' := l.isLt
  refine (tile_apply h q mask hm kn half half_apply _ _ _ _ _ _ u r l d hd).trans ?_
  have hos : (Scalar.mulf (readVs R i) (Scalar.ofBits .f32 0x3B124925#32) : Ideal .f32)
      = R.x2 (ix1 (kv i)) * Ideal.ofBits .f32 0x3B124925#32 := congrArg (· * _) (readVs_apply R i (kv i) rfl)
  rw [hos]
  refine congrArg (· * _) ?_
  have hq' : (if l.val / 64 = 0 then readQ R i p 0 else readQ R i p 1) = R.x0 (ix1 ⟨6 * (kv i).val + g.val, by omega⟩) := by
    by_cases h0 : l.val / 64 = 0
    · rw [if_pos h0]
      exact readQ_apply R i p 0 _ (by show 6 * (i 1).val + g.val = _ + 0; omega)
    · rw [if_neg h0]
      exact readQ_apply R i p 1 _ (by show 6 * (i 1).val + g.val = _ + 1; omega)
  have hscale : (if l.val / 64 = 0 then readQ R i p 0 else readQ R i p 1) * readK R i * factor = scale R i g * (Row.L : EReal) := by
    rw [hq', readK_apply R i (kv i) rfl, factor_eq, ← mul_assoc]
    rfl
  have hprod : ∀ j : Fin n, (∑ l' : Fin 128, kn (ix2 j l') * (if l'.val / 64 = l.val / 64 then readX R q p hq (ix3 0 r l') else 0))
      = product R i r' ⟨j.val, by omega⟩ g := fun j => by
    refine (half_sum (fun l' => kn (ix2 j l')) (fun l' => readX R q p hq (ix3 0 r l')) ⟨l.val / 64, by omega⟩).trans ?_
    refine Finset.sum_congr rfl fun x _ => ?_
    have hx := x.isLt
    rw [mul_comm]
    refine congrArg₂ (· * ·) (readX_apply R q p hq r _ r' _ hr ?_) (hkn j _ _ ?_)
    · show 64 * g.val + x.val = 128 * p.val + (64 * (l.val / 64) + x.val)
      omega
    · show 64 * ((i 1).val % 2) + x.val = 64 * ((i 1).val % 2) + (64 * (l.val / 64) + x.val) % 64
      omega
  rw [hscale]
  have key := Row.weighted_eq (n := n) (N := 1024) hn r'.val (by omega)
    (fun j => if hj : j < 1024 then product R i r' ⟨j, hj⟩ g else 0) (scale R i g)
    (fun j => if hj : j < 1024 then R.x5 (ix4 0 0 d ⟨j, hj⟩) else 0)
  refine Eq.trans (Finset.sum_congr rfl fun k _ => ?_) (key.trans (Finset.sum_congr rfl fun k _ => ?_))
  · have hk : k.val < 1024 := by omega
    rw [dif_pos hk, readV_apply R n hn d k ⟨k.val, hk⟩ rfl]
    refine congrArg (_ * Row.kerCode · k) (funext fun j => ?_)
    have hj : j.val < 1024 := by omega
    rw [dif_pos hj, hprod, hr]
  · rw [dif_pos k.isLt]
    refine congrArg (Row.refCode · k * _) (funext fun j => ?_)
    rw [dif_pos j.isLt]

/-- The block's value at an index of the block. -/
def valueAt (y : S1x1024x384.Idx) : EReal :=
  value R i (y 1) ⟨(y 2).val / 64, by have h : (y 2).val < 384 := (y 2).isLt; omega⟩ ⟨(y 2).val % 64, by omega⟩

/-- One block of query rows: each of its pieces holds the values where it lies. -/
theorem row_apply {n : ℕ} (h : Facts n) (hn : n ≤ 1024) (q : ℕ) (hqn : q + 128 ≤ n)
    (mask : FVec Ideal (Mat n 128) .f32 → FVec Ideal (Mat n 128) .f32) (hm : Masks q mask) (kn : FVec Ideal (Mat n 128) .fp8e4m3)
    (hkn : ∀ (k : Fin n) (l l' : Fin 128), l'.val = 64 * ((i 1).val % 2) + l.val % 64 →
      kn (ix2 k l) = R.x4 (ix3 0 ⟨k.val, by omega⟩ l'))
    (hq : q + 128 ≤ 1024) :
    ∀ pc ∈ row R i h hn mask kn q hq, ∀ x : pc.1.shape.Idx, pc.2 x = valueAt R i (pc.1.emb x) := by
  have one : ∀ p : Fin 3, ∀ x : S1x128x128.Idx,
      (piece R i h hn mask kn q hq p).2 x = valueAt R i ((piece R i h hn mask kn q hq p).1.emb x) := fun p x => by
    obtain ⟨u, r, l, rfl⟩ : ∃ (u : Fin 1) (r l : Fin 128), x = ix3 u r l :=
      ⟨x 0, x 1, x 2, funext fun a => match a with | ⟨0, _⟩ => rfl | ⟨1, _⟩ => rfl | ⟨2, _⟩ => rfl⟩
    have hl := l.isLt
    refine piece_apply R i h hn q hqn mask hm kn hkn hq p u r l _ _ _ ?_ ?_ ?_
    · show q + 1 * r.val = q + r.val
      omega
    · show (128 * p.val + 1 * l.val) / 64 = 2 * p.val + l.val / 64
      omega
    · show (128 * p.val + 1 * l.val) % 64 = l.val % 64
      omega
  intro pc hpc
  simp only [row, List.mem_cons, List.not_mem_nil, or_false] at hpc
  rcases hpc with rfl | rfl | rfl
  · exact one 2
  · exact one 1
  · exact one 0

/-- All pieces hold the values where they lie. -/
theorem pieces_apply : ∀ pc ∈ pieces R c i, ∀ x : pc.1.shape.Idx, pc.2 x = valueAt R i (pc.1.emb x) := by
  intro pc hpc
  simp only [pieces, List.mem_append] at hpc
  rcases hpc with ((((((hp | hp) | hp) | hp) | hp) | hp) | hp) | hp
  · exact row_apply R i _ _ 896 (by decide) _ (maskLast_masks _ causal causal_apply) _ (fun k l l' hl => keys_apply R c i k l l' hl) _ pc hp
  · exact row_apply R i _ _ 768 (by decide) _ (maskLast_masks _ causal causal_apply) _ (firstKeys_apply R c i _ (by decide) _) _ pc hp
  · exact row_apply R i _ _ 640 (by decide) _ (maskLast_masks _ causal causal_apply) _ (firstKeys_apply R c i _ (by decide) _) _ pc hp
  · exact row_apply R i _ _ 512 (by decide) _ (maskLast_masks _ causal causal_apply) _ (firstKeys_apply R c i _ (by decide) _) _ pc hp
  · exact row_apply R i _ _ 384 (by decide) _ (maskLast_masks _ causal causal_apply) _ (firstKeys_apply R c i _ (by decide) _) _ pc hp
  · exact row_apply R i _ _ 256 (by decide) _ (maskLast_masks _ causal causal_apply) _ (firstKeys_apply R c i _ (by decide) _) _ pc hp
  · exact row_apply R i _ _ 128 (by decide) _ (maskLast_masks _ causal causal_apply) _ (firstKeys_apply R c i _ (by decide) _) _ pc hp
  · exact row_apply R i _ _ 0 (by decide) _ (maskSquare_masks causal causal_apply) _ (firstKeys_apply R c i _ (by decide) _) _ pc hp

/-- WHAT A GRID POINT LEAVES in its block. -/
theorem out_apply (arg8 : Memref sig .tc .vmem S1x1024x384 .bf16) (harg8 : arg8.IsWhole) (y : S1x1024x384.Idx) :
    out0_A_6 c i R.arg2 R.harg2 R.arg3 R.harg3 R.arg4 R.harg4 R.arg5 R.harg5 R.arg6 R.harg6 R.arg7 R.harg7 arg8 harg8
      R.x0 R.x1 R.x2 R.x3 R.x4 R.x5 y = valueAt R i y := by
  refine (View.read_writes_junk_apply_eq_canon VO0_6 y _).trans ?_
  refine View.canon_apply_of_pieces (Val := Elt Ideal) (e := .bf16) (valueAt R i) _ ?_ y (cover0_A_6 c i _ _ _ _ _ _ _ _ _ _ _ _ _ _ _ _ _ _ _ _ y)
  rw [run_pieces]
  exact pieces_apply R c i

end Cert.Pieces

end
-- ==== Proof.Ref.lean ====
/- The reference's result at an index, over the extended reals. -/
module

public import proofs.«01_k».proof.Proof.Row
public import proofs.«01_k».proof.Proof.Gen.ReferenceIdeal.Value
public import Idealize.ShloMosaic.Lib.Pointwise

@[expose] public section

set_option maxRecDepth 16384

noncomputable section

namespace Cert.Ref

open Idealize.ShloMosaic
open Cert.ReferenceIdeal Cert.ReferenceIdeal.Gen
open scoped BigOperators

variable (a0 : Vec Ideal S2x1024x3072 .fp8e4m3) (a1 : Vec Ideal S2x1024x512 .fp8e4m3) (a2 : Vec Ideal S2x8x64x1024 .fp8e4m3)
  (a3 : Vec Ideal S48 .f32) (a4 : Vec Ideal S8 .f32) (a5 : Vec Ideal S8 .f32)

/-- The scaled products of queries and keys. -/
def scores : FVec Ideal S2x8x6x1024x1024 .f32 :=
  mulf
    (matmul dot_S2x8x6x1024x64_S2x8x1024x64_S2x8x6x1024x1024_4_3_23_2_01_01 none
      (transpose S2x8x6x1024x64 [0, 2, 3, 1, 4] (shapeCast S2x1024x8x6x64 a0 shapeCasts_S2x1024x3072_S2x1024x8x6x64) transposes_S2x1024x8x6x64_p0_2_3_1_4_S2x8x6x1024x64 : FVec Ideal _ .fp8e4m3)
      (transpose S2x8x1024x64 [0, 2, 1, 3] (shapeCast S2x1024x8x64 a1 shapeCasts_S2x1024x512_S2x1024x8x64) transposes_S2x1024x8x64_p0_2_1_3_S2x8x1024x64 : FVec Ideal _ .fp8e4m3)
      (constant S2x8x6x1024x1024 .f32 0x00000000#32))
    (broadcastTo S2x8x6x1024x1024
      (shapeCast S1x8x6x1x1
        (mulf (mulf (shapeCast S8x6 a3 shapeCasts_S48_S8x6 : FVec Ideal _ .f32)
            (broadcastTo S8x6 (shapeCast S8x1 a4 shapeCasts_S8_S8x1) broadcasts_S8x1_S8x6 : FVec Ideal _ .f32))
          (broadcast S8x6 (Scalar.ofBits .f32 0x3E000000#32 : Ideal .f32)))
        shapeCasts_S8x6_S1x8x6x1x1)
      broadcasts_S1x8x6x1x1_S2x8x6x1024x1024)

/-- Which key lies after which query. -/
def later : IVec S1024x1024 1 :=
  cmpi .sgt
    (broadcastTo S1024x1024 (shapeCast S1x1024 (shapeCast S1024 (iota .tc S1x1024 32 [1] iota_S1x1024_d1_w32) shapeCasts_S1x1024_S1024) shapeCasts_S1024_S1x1024) broadcasts_S1x1024_S1024x1024)
    (broadcastTo S1024x1024 (shapeCast S1024x1 (shapeCast S1024 (iota .tc S1x1024 32 [1] iota_S1x1024_d1_w32) shapeCasts_S1x1024_S1024) shapeCasts_S1024_S1024x1) broadcasts_S1024x1_S1024x1024)

/-- The scores, the least value at later keys. -/
def masked (t : FVec Ideal S2x8x6x1024x1024 .f32) : FVec Ideal S2x8x6x1024x1024 .f32 :=
  select (broadcastTo S2x8x6x1024x1024 (shapeCast S1x1x1x1024x1024 later shapeCasts_S1024x1024_S1x1x1x1024x1024) broadcasts_S1x1x1x1024x1024_S2x8x6x1024x1024)
    (broadcast S2x8x6x1024x1024 (Scalar.ofBits .f32 0xFF800000#32 : Ideal .f32)) t

/-- A row's greatest score. -/
def greatest (t : FVec Ideal S2x8x6x1024x1024 .f32) : FVec Ideal S2x8x6x1024 .f32 :=
  maximumf (broadcast S2x8x6x1024 (Scalar.ofBits .f32 0xFF800000#32 : Ideal .f32))
    (multiReduction .maximumf [4] S2x8x6x1024 t 0xFF800000#32 reduces_S2x8x6x1024x1024_S2x8x6x1024 (.inl rfl) rfl)

/-- A row's value, once for every score of the row. -/
def spread (g : FVec Ideal S2x8x6x1024 .f32) : FVec Ideal S2x8x6x1024x1024 .f32 :=
  broadcastTo S2x8x6x1024x1024 (shapeCast S2x8x6x1024x1 g shapeCasts_S2x8x6x1024_S2x8x6x1024x1) broadcasts_S2x8x6x1024x1_S2x8x6x1024x1024

/-- The exponentials. -/
def powers (t : FVec Ideal S2x8x6x1024x1024 .f32) : FVec Ideal S2x8x6x1024x1024 .f32 := exp (subf t (spread (greatest t)))

/-- The rows' sums. -/
def sums (e : FVec Ideal S2x8x6x1024x1024 .f32) : FVec Ideal S2x8x6x1024 .f32 :=
  multiReduction .add [4] S2x8x6x1024 e 0x00000000#32 reduces_S2x8x6x1024x1024_S2x8x6x1024 (.inl rfl) rfl

theorem pay2_eq : k0_pay2 a0 a1 a3 a4 = powers (masked (scores a0 a1 a3 a4)) := rfl

theorem pay3_eq : k0_pay3 a0 a1 a3 a4 = spread (sums (powers (masked (scores a0 a1 a3 a4)))) := rfl

variable (b : Fin 2) (h : Fin 8) (g : Fin 6) (r k : Fin 1024)

/-- The least value. -/
theorem neg_inf : Ideal.ofBits .f32 0xFF800000#32 = (⊥ : EReal) := by simp [Ideal.ofBits, Ideal.ieee]

theorem c448 : Ideal.ofBits .f32 0x43E00000#32 = Row.C := by
  unfold Row.C
  simp [Ideal.ofBits, Ideal.ieee, -EReal.coe_mul]; norm_num

/-- A greatest value over the last of five axes. -/
theorem max_last {n0 n1 n2 n3 n4 : ℕ} (h : (⟨5, ![n0, n1, n2, n3, n4]⟩ : Shape).Reduces [4] ⟨4, ![n0, n1, n2, n3]⟩)
    (t : FVec Ideal ⟨5, ![n0, n1, n2, n3, n4]⟩ .f32) (hφ hacc) (a : Fin n0) (b : Fin n1) (c : Fin n2) (d : Fin n3) :
    multiReduction .maximumf [4] ⟨4, ![n0, n1, n2, n3]⟩ t 0xFF800000#32 h hφ hacc (ix4 a b c d)
      = Finset.univ.sup fun k : Fin n4 => t (ix5 a b c d k) := by
  refine (Ideal.multiReduction_maximumf_single (a := 4) t _ h hφ hacc (ix4 a b c d)).trans ?_
  show Finset.fold max (Ideal.ofBits .f32 0xFF800000#32) _ _ = _
  rw [neg_inf]
  refine congrArg (fun f => Finset.fold max ⊥ f Finset.univ) (funext fun k => congrArg t (funext fun x => Fin.ext ?_))
  match x with
  | ⟨0, _⟩ => rfl
  | ⟨1, _⟩ => rfl
  | ⟨2, _⟩ => rfl
  | ⟨3, _⟩ => rfl
  | ⟨4, _⟩ => rfl

/-- The maximum with the least value, everywhere. -/
theorem max_least {s : Shape} (y : FVec Ideal s .f32) (j : s.Idx) :
    maximumf (broadcast s (Scalar.ofBits .f32 0xFF800000#32 : Ideal .f32)) y j = y j := by
  show max (Ideal.ofBits .f32 0xFF800000#32) (y j) = y j
  rw [neg_inf, max_eq_right bot_le]

/-- A query's product with a key of its head's kv head. -/
def product (b : Fin 2) (h : Fin 8) (g : Fin 6) (r k : Fin 1024) : EReal :=
  ∑ x : Fin 64, a0 (ix3 b r ⟨h.val * 384 + g.val * 64 + x.val, by omega⟩) * a1 (ix3 b k ⟨h.val * 64 + x.val, by omega⟩)

/-- A head's scale of the products. -/
def scale (h : Fin 8) (g : Fin 6) : EReal := a3 (ix1 ⟨h.val * 6 + g.val, by omega⟩) * a4 (ix1 h) * Ideal.ofBits .f32 0x3E000000#32

variable (b : Fin 2) (h : Fin 8) (g : Fin 6) (r k : Fin 1024)

theorem scores_apply : scores a0 a1 a3 a4 (ix5 b h g r k) = product a0 a1 b h g r k * scale a3 a4 h g := by
  pointwise [scores]
  rfl

theorem later_apply : later (ix2 r k) = BitVec.ofBool (decide (r.val < k.val)) := by
  pointwise [later]
  show BitVec.ofBool (BitVec.slt (BitVec.ofNat 32 r.val) (BitVec.ofNat 32 k.val)) = _
  have hr := r.isLt
  have hk := k.isLt
  rw [BitVec.slt_eq_decide, BitVec.toInt_eq_toNat_cond, BitVec.toInt_eq_toNat_cond, BitVec.toNat_ofNat, BitVec.toNat_ofNat]
  refine congrArg BitVec.ofBool (decide_eq_decide.mpr ?_)
  rw [if_pos (by omega), if_pos (by omega)]
  omega

theorem masked_apply (t) : masked t (ix5 b h g r k) = if r.val < k.val then ⊥ else t (ix5 b h g r k) := by
  pointwise [masked]
  rw [later_apply, neg_inf]
  by_cases hk : r.val < k.val <;> simp [hk, Scalar.select]

theorem greatest_apply (t) : greatest t (ix4 b h g r) = Finset.univ.sup fun k : Fin 1024 => t (ix5 b h g r k) := by
  unfold greatest
  exact (max_least _ _).trans (max_last _ t _ _ b h g r)

theorem spread_apply (t) : spread t (ix5 b h g r k) = t (ix4 b h g r) := by
  pointwise [spread]

theorem sums_apply (t) : sums t (ix4 b h g r) = ∑ k : Fin 1024, t (ix5 b h g r k) := by
  pointwise [sums]

theorem powers_apply (t) : powers t (ix5 b h g r k) = Ideal.exp (t (ix5 b h g r k) - Finset.univ.sup fun k : Fin 1024 => t (ix5 b h g r k)) := by
  show Ideal.exp (t (ix5 b h g r k) - spread (greatest t) (ix5 b h g r k)) = _
  rw [spread_apply, greatest_apply]

/-- A row's masked scores. -/
def score (k : Fin 1024) : EReal := if r.val < k.val then ⊥ else product a0 a1 b h g r k * scale a3 a4 h g

theorem pay2_apply : k0_pay2 a0 a1 a3 a4 (ix5 b h g r k)
    = Ideal.exp (score a0 a1 a3 a4 b h g r k - Finset.univ.sup (score a0 a1 a3 a4 b h g r)) := by
  have hs : ∀ k, masked (scores a0 a1 a3 a4) (ix5 b h g r k) = score a0 a1 a3 a4 b h g r k := fun k => by
    rw [masked_apply, scores_apply]; rfl
  rw [pay2_eq, powers_apply, hs, funext hs]

theorem pay3_apply : k0_pay3 a0 a1 a3 a4 (ix5 b h g r k)
    = ∑ k, Ideal.exp (score a0 a1 a3 a4 b h g r k - Finset.univ.sup (score a0 a1 a3 a4 b h g r)) := by
  rw [pay3_eq, ← pay2_eq, spread_apply, sums_apply]
  exact Finset.sum_congr rfl fun k _ => pay2_apply a0 a1 a3 a4 b h g r k

theorem pay1_apply (col : Fin 3072) (e s : FVec Ideal S2x8x6x1024x1024 .f32) :
    k0_pay1 a2 e s a5 (ix3 b r col) =
      (∑ x : Fin 1024,
        min (Ideal.ofBits .f32 0x43E00000#32)
            (max 0
              (Ideal.div (e (ix5 b (⟨col.val / 384, by omega⟩ : Fin 8) (⟨col.val / 64 % 6, by omega⟩ : Fin 6) r x))
                  (s (ix5 b (⟨col.val / 384, by omega⟩ : Fin 8) (⟨col.val / 64 % 6, by omega⟩ : Fin 6) r x)) *
                Ideal.ofBits .f32 0x43E00000#32)) *
          a2 (ix4 b (⟨col.val / 384, by omega⟩ : Fin 8) (⟨col.val % 64, by omega⟩ : Fin 64) x)) *
      (a5 (ix1 (⟨col.val / 384, by omega⟩ : Fin 8)) * Ideal.ofBits .f32 0x3B124925#32) := by
  pointwise [k0_pay1]

/-- THE REFERENCE AT AN INDEX: the coded weights of the row's scores, times the values, times the values' scale. -/
theorem value (b : Fin 2) (r : Fin 1024) (col : Fin 3072) (h : Fin 8) (g : Fin 6) (d : Fin 64) (hh : h.val = col.val / 384)
    (hg : g.val = col.val / 64 % 6) (hd : d.val = col.val % 64) :
    Cert.ReferenceIdeal.Value.G6 a0 a1 a2 a3 a4 a5 (ix3 b r col)
      = (∑ k : Fin 1024, Row.refCode (score a0 a1 a3 a4 b h g r) k * a2 (ix4 b h d k)) * (a5 (ix1 h) * Ideal.ofBits .f32 0x3B124925#32) := by
  have eh : (⟨col.val / 384, by omega⟩ : Fin 8) = h := Fin.ext hh.symm
  have eg : (⟨col.val / 64 % 6, by omega⟩ : Fin 6) = g := Fin.ext hg.symm
  have ed : (⟨col.val % 64, by omega⟩ : Fin 64) = d := Fin.ext hd.symm
  refine (pay1_apply a2 a5 b r col (k0_pay2 a0 a1 a3 a4) (k0_pay3 a0 a1 a3 a4)).trans ?_
  rw [eh, eg, ed]
  refine congrArg (· * _) (Finset.sum_congr rfl fun k _ => congrArg (· * _) ?_)
  rw [pay2_apply, pay3_apply, c448]
  rfl

end Cert.Ref

end
-- ==== Proof.Result.lean ====
/- The kernel's result array at an index, over the extended reals, and that it is the reference's. -/
module

public import proofs.«01_k».proof.Proof.BlockValue
public import proofs.«01_k».proof.Proof.Ref
public import proofs.«01_k».proof.Proof.Gen.KernelIdeal.Value

@[expose] public section

set_option maxRecDepth 16384

noncomputable section

namespace Cert.Result

open Idealize.ShloMosaic Idealize.ShloMosaic.TcCoe
open Cert.KernelIdeal Cert.KernelIdeal.Gen
open scoped BigOperators

/-- The blocks' indices at a grid point. -/
theorem index_facts : ∀ t : Fin cfg0.N, win0_0.index t (0 : Fin 1) = 0 ∧ win0_1.index t (0 : Fin 1) = 0 ∧ win0_2.index t (0 : Fin 1) = 0
    ∧ (win0_3.index t (0 : Fin 3) = (grid0.coords t 0).val ∧ win0_3.index t (1 : Fin 3) = 0 ∧ win0_3.index t (2 : Fin 3) = (grid0.coords t 1).val)
    ∧ (win0_4.index t (0 : Fin 3) = (grid0.coords t 0).val ∧ win0_4.index t (1 : Fin 3) = 0 ∧ win0_4.index t (2 : Fin 3) = (grid0.coords t 1).val / 2)
    ∧ (win0_5.index t (0 : Fin 4) = (grid0.coords t 0).val ∧ win0_5.index t (1 : Fin 4) = (grid0.coords t 1).val ∧ win0_5.index t (2 : Fin 4) = 0 ∧ win0_5.index t (3 : Fin 4) = 0)
    ∧ (win0_6.index t (0 : Fin 3) = (grid0.coords t 0).val ∧ win0_6.index t (1 : Fin 3) = 0 ∧ win0_6.index t (2 : Fin 3) = (grid0.coords t 1).val) :=
  (by decide +kernel : ∀ t : Fin grid0.N, _)

/-- Every batch and kv head has its grid point, which writes its block back. -/
theorem point : ∀ (b : Fin 2) (h : Fin 8), ∃ t : Fin cfg0.N, (cfg0.win 6).flush t = true ∧ (grid0.coords t 0).val = b.val ∧ (grid0.coords t 1).val = h.val :=
  (by decide +kernel : ∀ (b : Fin 2) (h : Fin 8), ∃ t : Fin grid0.N, (cfg0.win 6).flush t = true ∧ (grid0.coords t 0).val = b.val ∧ (grid0.coords t 1).val = h.val)

variable (m : (ℓ : Loc nD τ sig) → Buf (Elt Ideal) ℓ) (c : Dev nD) (t : Fin cfg0.N)

/-! ## The blocks of the arguments -/

theorem blk0_apply (z y : S48.Idx) (h : (y 0).val = (z 0).val) : iblk m c 0 t z = m ((c : Thread nD τ).loc main_arg3) y := by
  obtain ⟨e, -⟩ := index_facts t
  refine congrArg (m ((c : Thread nD τ).loc main_arg3)) (funext fun a => Fin.ext ?_)
  match a with
  | ⟨0, _⟩ => show win0_0.index t (0 : Fin 1) * 48 + 1 * (z 0).val = (y 0).val; omega

theorem blk1_apply (z y : S8.Idx) (h : (y 0).val = (z 0).val) : iblk m c 1 t z = m ((c : Thread nD τ).loc main_arg4) y := by
  obtain ⟨-, e, -⟩ := index_facts t
  refine congrArg (m ((c : Thread nD τ).loc main_arg4)) (funext fun a => Fin.ext ?_)
  match a with
  | ⟨0, _⟩ => show win0_1.index t (0 : Fin 1) * 8 + 1 * (z 0).val = (y 0).val; omega

theorem blk2_apply (z y : S8.Idx) (h : (y 0).val = (z 0).val) : iblk m c 2 t z = m ((c : Thread nD τ).loc main_arg5) y := by
  obtain ⟨-, -, e, -⟩ := index_facts t
  refine congrArg (m ((c : Thread nD τ).loc main_arg5)) (funext fun a => Fin.ext ?_)
  match a with
  | ⟨0, _⟩ => show win0_2.index t (0 : Fin 1) * 8 + 1 * (z 0).val = (y 0).val; omega

theorem blk3_apply (z : S1x1024x384.Idx) (y : S2x1024x3072.Idx) (h0 : (y 0).val = (grid0.coords t 0).val) (h1 : (y 1).val = (z 1).val)
    (h2 : (y 2).val = (grid0.coords t 1).val * 384 + (z 2).val) : iblk m c 3 t z = m ((c : Thread nD τ).loc main_arg0) y := by
  obtain ⟨-, -, -, ⟨e0, e1, e2⟩, -⟩ := index_facts t
  have hz : (z 0).val < 1 := (z 0).isLt
  refine congrArg (m ((c : Thread nD τ).loc main_arg0)) (funext fun a => Fin.ext ?_)
  match a with
  | ⟨0, _⟩ => show win0_3.index t (0 : Fin 3) * 1 + 1 * (z 0).val = (y 0).val; omega
  | ⟨1, _⟩ => show win0_3.index t (1 : Fin 3) * 1024 + 1 * (z 1).val = (y 1).val; omega
  | ⟨2, _⟩ => show win0_3.index t (2 : Fin 3) * 384 + 1 * (z 2).val = (y 2).val; omega

theorem blk4_apply (z : S1x1024x128.Idx) (y : S2x1024x512.Idx) (h0 : (y 0).val = (grid0.coords t 0).val) (h1 : (y 1).val = (z 1).val)
    (h2 : (y 2).val = (grid0.coords t 1).val / 2 * 128 + (z 2).val) : iblk m c 4 t z = m ((c : Thread nD τ).loc main_arg1) y := by
  obtain ⟨-, -, -, -, ⟨e0, e1, e2⟩, -⟩ := index_facts t
  have hz : (z 0).val < 1 := (z 0).isLt
  refine congrArg (m ((c : Thread nD τ).loc main_arg1)) (funext fun a => Fin.ext ?_)
  match a with
  | ⟨0, _⟩ => show win0_4.index t (0 : Fin 3) * 1 + 1 * (z 0).val = (y 0).val; omega
  | ⟨1, _⟩ => show win0_4.index t (1 : Fin 3) * 1024 + 1 * (z 1).val = (y 1).val; omega
  | ⟨2, _⟩ => show win0_4.index t (2 : Fin 3) * 128 + 1 * (z 2).val = (y 2).val; omega

theorem blk5_apply (z : S1x1x64x1024.Idx) (y : S2x8x64x1024.Idx) (h0 : (y 0).val = (grid0.coords t 0).val)
    (h1 : (y 1).val = (grid0.coords t 1).val) (h2 : (y 2).val = (z 2).val) (h3 : (y 3).val = (z 3).val) :
    iblk m c 5 t z = m ((c : Thread nD τ).loc main_arg2) y := by
  obtain ⟨-, -, -, -, -, ⟨e0, e1, e2, e3⟩, -⟩ := index_facts t
  have hz : (z 0).val < 1 := (z 0).isLt
  have hz' : (z 1).val < 1 := (z 1).isLt
  refine congrArg (m ((c : Thread nD τ).loc main_arg2)) (funext fun a => Fin.ext ?_)
  match a with
  | ⟨0, _⟩ => show win0_5.index t (0 : Fin 4) * 1 + 1 * (z 0).val = (y 0).val; omega
  | ⟨1, _⟩ => show win0_5.index t (1 : Fin 4) * 1 + 1 * (z 1).val = (y 1).val; omega
  | ⟨2, _⟩ => show win0_5.index t (2 : Fin 4) * 64 + 1 * (z 2).val = (y 2).val; omega
  | ⟨3, _⟩ => show win0_5.index t (3 : Fin 4) * 1024 + 1 * (z 3).val = (y 3).val; omega

/-! ## The result -/

/-- What grid point `t` computes from: its staging buffers, and its blocks of the arguments. -/
def ins : Pieces.Ins Ideal where
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  x0 := iblk m c 0 t
  x1 := iblk m c 1 t
  x2 := iblk m c 2 t
  x3 := iblk m c 3 t
  x4 := iblk m c 4 t
  x5 := iblk m c 5 t

/-- The result array, at an index of block `t`. -/
theorem array_block (hf : (cfg0.win 6).flush t = true) (z : S1x1024x384.Idx) (y : S2x1024x3072.Idx) (h0 : (y 0).val = (grid0.coords t 0).val)
    (h1 : (y 1).val = (z 1).val) (h2 : (y 2).val = (grid0.coords t 1).val * 384 + (z 2).val) :
    (dats m 0 c).arrAt 6 cfg0.N y = Pieces.valueAt (ins m c t) (grid0.coords t) z := by
  obtain ⟨-, -, -, -, -, -, ⟨e0, e1, e2⟩⟩ := index_facts t
  have hz : (z 0).val < 1 := (z 0).isLt
  have b := congrFun (Cert.KernelIdeal.Value.blocks6 m c t hf) z
  rw [Cert.KernelIdeal.Value.flushed6_A] at b
  have b' : (dats m 0 c).arrAt 6 cfg0.N (((cfg0.win 6).blk t).view.emb z) = _ := b
  have he : ((cfg0.win 6).blk t).view.emb z = y := by
    funext a; apply Fin.ext
    match a with
    | ⟨0, _⟩ => show win0_6.index t (0 : Fin 3) * 1 + 1 * (z 0).val = (y 0).val; omega
    | ⟨1, _⟩ => show win0_6.index t (1 : Fin 3) * 1024 + 1 * (z 1).val = (y 1).val; omega
    | ⟨2, _⟩ => show win0_6.index t (2 : Fin 3) * 384 + 1 * (z 2).val = (y 2).val; omega
  rw [he] at b'
  exact b'.trans (Pieces.out_apply (ins m c t) c (grid0.coords t) (ms0_6 t) (hs0_6 t) z)

/-- The arguments as the reference takes them. -/
abbrev refResult : Vec Ideal S2x1024x3072 .bf16 :=
  Cert.ReferenceIdeal.Value.G6 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The products of a grid point's queries and keys are the reference's. -/
theorem product_eq (b : Fin 2) (h : Fin 8) (hb : (grid0.coords t 0).val = b.val) (hh : (grid0.coords t 1).val = h.val) (r k : Fin 1024) (g : Fin 6) :
    Pieces.product (ins m c t) (grid0.coords t) r k g
      = Ref.product (m ((c : Thread nD τ).loc main_arg0)) (m ((c : Thread nD τ).loc main_arg1)) b h g r k := by
  unfold Pieces.product Ref.product
  refine Finset.sum_congr rfl fun x _ => congrArg₂ (· * ·) ?_ ?_
  · refine blk3_apply m c t _ _ hb.symm rfl ?_
    show h.val * 384 + g.val * 64 + x.val = (grid0.coords t 1).val * 384 + (64 * g.val + x.val)
    omega
  · refine blk4_apply m c t _ _ hb.symm rfl ?_
    show h.val * 64 + x.val = (grid0.coords t 1).val / 2 * 128 + (64 * ((grid0.coords t 1).val % 2) + x.val)
    omega

theorem scale_eq (h : Fin 8) (hh : (grid0.coords t 1).val = h.val) (g : Fin 6) :
    Pieces.scale (ins m c t) (grid0.coords t) g = Ref.scale (m ((c : Thread nD τ).loc main_arg3)) (m ((c : Thread nD τ).loc main_arg4)) h g := by
  unfold Pieces.scale Ref.scale
  refine congrArg (· * _) (congrArg₂ (· * ·) (blk0_apply m c t _ _ ?_) (blk1_apply m c t _ _ hh.symm))
  show h.val * 6 + g.val = 6 * (grid0.coords t 1).val + g.val
  omega

/-- THE RESULT: the kernel's array is the reference's, everywhere. -/
theorem array_eq : (dats m 0 c).arrAt 6 cfg0.N = refResult m c := by
  funext y
  obtain ⟨b, r, col, rfl⟩ : ∃ (b : Fin 2) (r : Fin 1024) (col : Fin 3072), y = ix3 b r col :=
    ⟨y 0, y 1, y 2, funext fun a => match a with | ⟨0, _⟩ => rfl | ⟨1, _⟩ => rfl | ⟨2, _⟩ => rfl⟩
  obtain ⟨t, hf, hb, hh⟩ := point b ⟨col.val / 384, by omega⟩
  have hh' : (grid0.coords t 1).val = col.val / 384 := hh
  refine (array_block m c t hf (ValueIdx.ix3 0 r ⟨col.val % 384, by omega⟩) _ hb.symm rfl ?_).trans ?_
  · show col.val = (grid0.coords t 1).val * 384 + col.val % 384
    omega
  have hg : col.val / 64 % 6 = col.val % 384 / 64 := by omega
  refine Eq.trans ?_ (Ref.value _ _ _ _ _ _ b r col ⟨col.val / 384, by omega⟩ ⟨col.val % 384 / 64, by omega⟩ ⟨col.val % 64, by omega⟩ rfl hg.symm rfl).symm
  show Pieces.value (ins m c t) (grid0.coords t) r ⟨col.val % 384 / 64, _⟩ ⟨col.val % 384 % 64, _⟩ = _
  unfold Pieces.value
  refine congrArg₂ (· * ·) (Finset.sum_congr rfl fun k _ => congrArg₂ (· * ·) ?_ ?_) (congrArg (· * _) (blk2_apply m c t _ _ hh.symm))
  · refine congrArg (Row.refCode · k) (funext fun j => ?_)
    unfold Ref.score
    rw [product_eq m c t b _ hb hh, scale_eq m c t _ hh]
  · refine blk5_apply m c t _ _ hb.symm hh.symm ?_ rfl
    show col.val % 64 = col.val % 384 % 64
    omega

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Result
public import Idealize.ShloMosaic.Adequacy
public import Idealize.ShloMosaic.Init

@[expose] public section

noncomputable section

namespace Cert.Proof

open Idealize.ShloMosaic Idealize.SL.Sem Cert.Kernel

/-- The named constant stands for `1 / (8 · log 2)`. -/
theorem preserves : Cert.preserves_Kernel_KernelIdeal :=
  IdealRules.named_const.statement Cert.KernelIdeal.κ "log2e_over_8" .f32 0x3E38AA3B#32 ((8⁻¹ * (Real.log 2)⁻¹ : ℝ) : EReal) rfl

/-- The kernel's result and the reference's are equal, from equal arguments. -/
theorem algebraic : Cert.algebraic_KernelIdeal_ReferenceIdeal
    (hKernelIdeal := Cert.KernelIdeal.Gen.facts) (hReferenceIdeal := Cert.ReferenceIdeal.Gen.facts) := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact (Cert.Result.array_eq m c).symm

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
